-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def preserves_Kernel_KernelIdeal : Prop :=
  IdealRules.named_const.Statement Cert.KernelIdeal.κ "mask" .f32 0xF149F2CA#32 ⊥

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v65) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v13)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v13) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v13)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v13) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v2_1)) (v2 : (c : Dev Cert.Kernel5Ideal.nD) → Buf (Elt Ideal) ((c.tc : Thread Cert.Kernel5Ideal.nD Cert.Kernel5Ideal.τ).loc Cert.Kernel5Ideal.main_v2_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v2_1) = v1 c
          ∧ r.2.mem ((c.tc : Thread Cert.Kernel5Ideal.nD Cert.Kernel5Ideal.τ).loc Cert.Kernel5Ideal.main_v2_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v22) = v0 c
          ∧ r.2.mem ((c.tc : Thread Cert.Reference5Ideal.nD Cert.Reference5Ideal.τ).loc Cert.Reference5Ideal.main_v35) = v1 c
          ∧ r.2.mem ((c.tc : Thread Cert.Reference5Ideal.nD Cert.Reference5Ideal.τ).loc Cert.Reference5Ideal.main_v36) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v1) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def Claim : Prop :=
  ∃ (hKernel : Cert.Kernel.Facts) (hKernelIdeal : Cert.KernelIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts),
    quiescent_Kernel (hKernel := hKernel)
    ∧ quiescent_KernelIdeal (hKernelIdeal := hKernelIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Kernel.lean ====
abbrev S8x2048x10240 : Shape := ⟨3, ![8, 2048, 10240]⟩
abbrev S8x2048x48 : Shape := ⟨3, ![8, 2048, 48]⟩
abbrev S8x4x128x128 : Shape := ⟨4, ![8, 4, 128, 128]⟩
abbrev S8x4x2048x128 : Shape := ⟨4, ![8, 4, 2048, 128]⟩
abbrev S8x2048x4x12 : Shape := ⟨4, ![8, 2048, 4, 12]⟩
abbrev S_ : Shape := ⟨0, ![]⟩
abbrev S8x2048x4x128 : Shape := ⟨4, ![8, 2048, 4, 128]⟩
abbrev S8x2048x512 : Shape := ⟨3, ![8, 2048, 512]⟩
abbrev S8x2048x3584 : Shape := ⟨3, ![8, 2048, 3584]⟩
abbrev S64 : Shape := ⟨1, ![64]⟩
abbrev S2048 : Shape := ⟨1, ![2048]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S128 : Shape := ⟨1, ![128]⟩
abbrev S1x128 : Shape := ⟨2, ![1, 128]⟩
abbrev S32 : Shape := ⟨1, ![32]⟩
abbrev S32x1 : Shape := ⟨2, ![32, 1]⟩
abbrev S32x128 : Shape := ⟨2, ![32, 128]⟩
abbrev S4 : Shape := ⟨1, ![4]⟩
abbrev S4x1x1 : Shape := ⟨3, ![4, 1, 1]⟩
abbrev S512 : Shape := ⟨1, ![512]⟩
abbrev S1x1x512 : Shape := ⟨3, ![1, 1, 512]⟩
abbrev S4x1x512 : Shape := ⟨3, ![4, 1, 512]⟩
abbrev S1x32x1 : Shape := ⟨3, ![1, 32, 1]⟩
abbrev S4x32x512 : Shape := ⟨3, ![4, 32, 512]⟩
abbrev S8x2048x2048 : Shape := ⟨3, ![8, 2048, 2048]⟩
abbrev S1x512x512 : Shape := ⟨3, ![1, 512, 512]⟩
abbrev S1x512x128 : Shape := ⟨3, ![1, 512, 128]⟩
abbrev S1x1x128x128 : Shape := ⟨4, ![1, 1, 128, 128]⟩
abbrev S1x1x2048x128 : Shape := ⟨4, ![1, 1, 2048, 128]⟩
abbrev S512x128 : Shape := ⟨2, ![512, 128]⟩
abbrev S4x512x128 : Shape := ⟨3, ![4, 512, 128]⟩
abbrev S512x1 : Shape := ⟨2, ![512, 1]⟩
abbrev S128x128 : Shape := ⟨2, ![128, 128]⟩
abbrev S1x512 : Shape := ⟨2, ![1, 512]⟩
abbrev S128x1 : Shape := ⟨2, ![128, 1]⟩
abbrev S128x512 : Shape := ⟨2, ![128, 512]⟩
abbrev S32x512 : Shape := ⟨2, ![32, 512]⟩
abbrev S96x512 : Shape := ⟨2, ![96, 512]⟩
abbrev S512x32 : Shape := ⟨2, ![512, 32]⟩
abbrev S1x1x512x128 : Shape := ⟨4, ![1, 1, 512, 128]⟩
abbrev S1x32x512 : Shape := ⟨3, ![1, 32, 512]⟩
abbrev S512x512 : Shape := ⟨2, ![512, 512]⟩
abbrev S1x1x1024x128 : Shape := ⟨4, ![1, 1, 1024, 128]⟩
abbrev S1024x128 : Shape := ⟨2, ![1024, 128]⟩
abbrev S1x1024 : Shape := ⟨2, ![1, 1024]⟩
abbrev S512x1024 : Shape := ⟨2, ![512, 1024]⟩

abbrev nBuf : Space → Nat
  | .hbm => 116
  | .vmem => 27
  | .smem => 0
  | _ => 0

abbrev bufTy : (tb : Table) → Fin (tcTables nBuf tb) → BufTy
  | .hbm, ⟨0, _⟩ => ⟨S8x2048x10240, .bf16⟩
  | .hbm, ⟨1, _⟩ => ⟨S8x2048x48, .f32⟩
  | .hbm, ⟨2, _⟩ => ⟨S8x4x128x128, .bf16⟩
  | .hbm, ⟨3, _⟩ => ⟨S8x4x128x128, .bf16⟩
  | .hbm, ⟨4, _⟩ => ⟨S8x4x2048x128, .bf16⟩
  | .hbm, ⟨5, _⟩ => ⟨S8x4x2048x128, .bf16⟩
  | .hbm, ⟨6, _⟩ => ⟨S8x4x2048x128, .bf16⟩
  | .hbm, ⟨7, _⟩ => ⟨S8x4x2048x128, .bf16⟩
  | .hbm, ⟨8, _⟩ => ⟨S8x2048x4x12, .f32⟩
  | .hbm, ⟨9, _⟩ => ⟨S_, .i32⟩
  | .hbm, ⟨10, _⟩ => ⟨S_, .f32⟩
  | .hbm, ⟨11, _⟩ => ⟨S8x2048x4x128, .f32⟩
  | .hbm, ⟨12, _⟩ => ⟨S8x2048x512, .f32⟩
  | .hbm, ⟨13, _⟩ => ⟨S_, .i32⟩
  | .hbm, ⟨14, _⟩ => ⟨S_, .f32⟩
  | .hbm, ⟨15, _⟩ => ⟨S8x2048x3584, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S64, .f32⟩
  | .hbm, ⟨23, _⟩ => ⟨S64, .f32⟩
  | .hbm, ⟨24, _⟩ => ⟨S2048, .f32⟩
  | .hbm, ⟨25, _⟩ => ⟨S2048x1, .f32⟩
  | .hbm, ⟨26, _⟩ => ⟨S1x64, .f32⟩
  | .hbm, ⟨27, _⟩ => ⟨S2048x64, .f32⟩
  | .hbm, ⟨28, _⟩ => ⟨S2048x64, .f32⟩
  | .hbm, ⟨29, _⟩ => ⟨S2048x64, .f32⟩
  | .hbm, ⟨30, _⟩ => ⟨S2048x64, .f32⟩
  | .hbm, ⟨31, _⟩ => ⟨S2048x64, .f32⟩
  | .hbm, ⟨32, _⟩ => ⟨S2048x128, .f32⟩
  | .hbm, ⟨33, _⟩ => ⟨S2048x64, .f32⟩
  | .hbm, ⟨34, _⟩ => ⟨S2048x128, .f32⟩
  | .hbm, ⟨35, _⟩ => ⟨S128, .i32⟩
  | .hbm, ⟨36, _⟩ => ⟨S1x128, .i32⟩
  | .hbm, ⟨37, _⟩ => ⟨S32, .i32⟩
  | .hbm, ⟨38, _⟩ => ⟨S32x1, .i32⟩
  | .hbm, ⟨39, _⟩ => ⟨S_, .i32⟩
  | .hbm, ⟨40, _⟩ => ⟨S32x1, .i32⟩
  | .hbm, ⟨41, _⟩ => ⟨S32x1, .i32⟩
  | .hbm, ⟨42, _⟩ => ⟨S32x128, .i32⟩
  | .hbm, ⟨43, _⟩ => ⟨S32x128, .i32⟩
  | .hbm, ⟨44, _⟩ => ⟨S32x128, .i32⟩
  | .hbm, ⟨45, _⟩ => ⟨S_, .i32⟩
  | .hbm, ⟨46, _⟩ => ⟨S32x128, .i32⟩
  | .hbm, ⟨47, _⟩ => ⟨S32x128, .i1⟩
  | .hbm, ⟨48, _⟩ => ⟨S_, .i32⟩
  | .hbm, ⟨49, _⟩ => ⟨S32x128, .i32⟩
  | .hbm, ⟨50, _⟩ => ⟨S32x128, .i1⟩
  | .hbm, ⟨51, _⟩ => ⟨S32x128, .i1⟩
  | .hbm, ⟨52, _⟩ => ⟨S_, .i32⟩
  | .hbm, ⟨53, _⟩ => ⟨S32x128, .i32⟩
  | .hbm, ⟨54, _⟩ => ⟨S32x128, .i1⟩
  | .hbm, ⟨55, _⟩ => ⟨S_, .i32⟩
  | .hbm, ⟨56, _⟩ => ⟨S32x128, .i32⟩
  | .hbm, ⟨57, _⟩ => ⟨S32x128, .i1⟩
  | .hbm, ⟨58, _⟩ => ⟨S32x128, .i1⟩
  | .hbm, ⟨59, _⟩ => ⟨S_, .f32⟩
  | .hbm, ⟨60, _⟩ => ⟨S_, .f32⟩
  | .hbm, ⟨61, _⟩ => ⟨S32x128, .f32⟩
  | .hbm, ⟨62, _⟩ => ⟨S32x128, .f32⟩
  | .hbm, ⟨63, _⟩ => ⟨S32x128, .f32⟩
  | .hbm, ⟨64, _⟩ => ⟨S_, .f32⟩
  | .hbm, ⟨65, _⟩ => ⟨S32x128, .f32⟩
  | .hbm, ⟨66, _⟩ => ⟨S32x128, .f32⟩
  | .hbm, ⟨67, _⟩ => ⟨S128, .i32⟩
  | .hbm, ⟨68, _⟩ => ⟨S1x128, .i32⟩
  | .hbm, ⟨69, _⟩ => ⟨S_, .i32⟩
  | .hbm, ⟨70, _⟩ => ⟨S1x128, .i32⟩
  | .hbm, ⟨71, _⟩ => ⟨S1x128, .i1⟩
  | .hbm, ⟨72, _⟩ => ⟨S_, .f32⟩
  | .hbm, ⟨73, _⟩ => ⟨S32x128, .i1⟩
  | .hbm, ⟨74, _⟩ => ⟨S32x128, .f32⟩
  | .hbm, ⟨75, _⟩ => ⟨S32x128, .f32⟩
  | .hbm, ⟨76, _⟩ => ⟨S4, .i32⟩
  | .hbm, ⟨77, _⟩ => ⟨S4x1x1, .i32⟩
  | .hbm, ⟨78, _⟩ => ⟨S_, .i32⟩
  | .hbm, ⟨79, _⟩ => ⟨S4x1x1, .i32⟩
  | .hbm, ⟨80, _⟩ => ⟨S4x1x1, .i32⟩
  | .hbm, ⟨81, _⟩ => ⟨S512, .i32⟩
  | .hbm, ⟨82, _⟩ => ⟨S1x1x512, .i32⟩
  | .hbm, ⟨83, _⟩ => ⟨S4x1x512, .i32⟩
  | .hbm, ⟨84, _⟩ => ⟨S4x1x512, .i32⟩
  | .hbm, ⟨85, _⟩ => ⟨S4x1x512, .i32⟩
  | .hbm, ⟨86, _⟩ => ⟨S_, .i32⟩
  | .hbm, ⟨87, _⟩ => ⟨S_, .i32⟩
  | .hbm, ⟨88, _⟩ => ⟨S4x1x512, .i32⟩
  | .hbm, ⟨89, _⟩ => ⟨S4x1x512, .i32⟩
  | .hbm, ⟨90, _⟩ => ⟨S4x1x512, .i32⟩
  | .hbm, ⟨91, _⟩ => ⟨S_, .i32⟩
  | .hbm, ⟨92, _⟩ => ⟨S4x1x512, .i32⟩
  | .hbm, ⟨93, _⟩ => ⟨S4x1x512, .i1⟩
  | .hbm, ⟨94, _⟩ => ⟨S4x1x512, .i32⟩
  | .hbm, ⟨95, _⟩ => ⟨S4x1x512, .i32⟩
  | .hbm, ⟨96, _⟩ => ⟨S_, .i32⟩
  | .hbm, ⟨97, _⟩ => ⟨S4x1x512, .i32⟩
  | .hbm, ⟨98, _⟩ => ⟨S4x1x512, .i1⟩
  | .hbm, ⟨99, _⟩ => ⟨S4x1x512, .i1⟩
  | .hbm, ⟨100, _⟩ => ⟨S_, .i32⟩
  | .hbm, ⟨101, _⟩ => ⟨S4x1x512, .i32⟩
  | .hbm, ⟨102, _⟩ => ⟨S4x1x512, .i32⟩
  | .hbm, ⟨103, _⟩ => ⟨S4x1x512, .i32⟩
  | .hbm, ⟨104, _⟩ => ⟨S32, .i32⟩
  | .hbm, ⟨105, _⟩ => ⟨S1x32x1, .i32⟩
  | .hbm, ⟨106, _⟩ => ⟨S4x32x512, .i32⟩
  | .hbm, ⟨107, _⟩ => ⟨S4x32x512, .i32⟩
  | .hbm, ⟨108, _⟩ => ⟨S4x32x512, .i1⟩
  | .hbm, ⟨109, _⟩ => ⟨S_, .f32⟩
  | .hbm, ⟨110, _⟩ => ⟨S_, .f32⟩
  | .hbm, ⟨111, _⟩ => ⟨S4x32x512, .f32⟩
  | .hbm, ⟨112, _⟩ => ⟨S4x32x512, .f32⟩
  | .hbm, ⟨113, _⟩ => ⟨S4x32x512, .f32⟩
  | .hbm, ⟨114, _⟩ => ⟨S4x32x512, .bf16⟩
  | .hbm, ⟨115, _⟩ => ⟨S8x2048x2048, .bf16⟩
  | .local _ .vmem, ⟨0, _⟩ => ⟨S1x512x512, .bf16⟩
  | .local _ .vmem, ⟨1, _⟩ => ⟨S1x512x512, .bf16⟩
  | .local _ .vmem, ⟨2, _⟩ => ⟨S1x512x128, .f32⟩
  | .local _ .vmem, ⟨3, _⟩ => ⟨S1x512x128, .f32⟩
  | .local _ .vmem, ⟨4, _⟩ => ⟨S1x1x128x128, .bf16⟩
  | .local _ .vmem, ⟨5, _⟩ => ⟨S1x1x128x128, .bf16⟩
  | .local _ .vmem, ⟨6, _⟩ => ⟨S1x1x128x128, .bf16⟩
  | .local _ .vmem, ⟨7, _⟩ => ⟨S1x1x128x128, .bf16⟩
  | .local _ .vmem, ⟨8, _⟩ => ⟨S1x1x2048x128, .bf16⟩
  | .local _ .vmem, ⟨9, _⟩ => ⟨S1x1x2048x128, .bf16⟩
  | .local _ .vmem, ⟨10, _⟩ => ⟨S1x1x2048x128, .bf16⟩
  | .local _ .vmem, ⟨11, _⟩ => ⟨S1x1x2048x128, .bf16⟩
  | .local _ .vmem, ⟨12, _⟩ => ⟨S1x1x2048x128, .bf16⟩
  | .local _ .vmem, ⟨13, _⟩ => ⟨S1x1x2048x128, .bf16⟩
  | .local _ .vmem, ⟨14, _⟩ => ⟨S1x1x2048x128, .bf16⟩
  | .local _ .vmem, ⟨15, _⟩ => ⟨S1x1x2048x128, .bf16⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S32x128, .f32⟩
  | .local _ .vmem, ⟨21, _⟩ => ⟨S4x32x512, .bf16⟩
  | .local _ .vmem, ⟨22, _⟩ => ⟨S1x512x512, .bf16⟩
  | .local _ .vmem, ⟨23, _⟩ => ⟨S1x512x512, .bf16⟩
  | .local _ .vmem, ⟨24, _⟩ => ⟨S4x512x128, .f32⟩
  | .local _ .vmem, ⟨25, _⟩ => ⟨S4x512x128, .f32⟩
  | .local _ .vmem, ⟨26, _⟩ => ⟨S4x512x128, .f32⟩
  | _, _ => ⟨S8x2048x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_call1_v0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_2 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_3 : Ref sig .tc := ⟨.hbm, 45, rfl⟩
abbrev main_v30 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_5 : Ref sig .tc := ⟨.hbm, 52, rfl⟩
abbrev main_v35 : Ref sig .tc := ⟨.hbm, 53, rfl⟩
abbrev main_v36 : Ref sig .tc := ⟨.hbm, 54, rfl⟩
abbrev main_c_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_cst_8 : Ref sig .tc := ⟨.hbm, 60, rfl⟩
abbrev main_call2_v0 : Ref sig .tc := ⟨.hbm, 61, rfl⟩
abbrev main_call2_v1 : Ref sig .tc := ⟨.hbm, 62, rfl⟩
abbrev main_v40 : Ref sig .tc := ⟨.hbm, 63, rfl⟩
abbrev main_cst_9 : Ref sig .tc := ⟨.hbm, 64, rfl⟩
abbrev main_call3_v0 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_c_10 : Ref sig .tc := ⟨.hbm, 69, rfl⟩
abbrev main_v44 : Ref sig .tc := ⟨.hbm, 70, rfl⟩
abbrev main_v45 : Ref sig .tc := ⟨.hbm, 71, rfl⟩
abbrev main_cst_11 : Ref sig .tc := ⟨.hbm, 72, rfl⟩
abbrev main_call4_v0 : Ref sig .tc := ⟨.hbm, 73, rfl⟩
abbrev main_call4_v1 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_c_12 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_c_13 : Ref sig .tc := ⟨.hbm, 86, rfl⟩
abbrev main_call5_v0 : Ref sig .tc := ⟨.hbm, 87, rfl⟩
abbrev main_call5_v1 : Ref sig .tc := ⟨.hbm, 88, rfl⟩
abbrev main_call5_v2 : Ref sig .tc := ⟨.hbm, 89, rfl⟩
abbrev main_call5_v3 : Ref sig .tc := ⟨.hbm, 90, rfl⟩
abbrev main_call5_v4 : Ref sig .tc := ⟨.hbm, 91, rfl⟩
abbrev main_call5_v5 : Ref sig .tc := ⟨.hbm, 92, rfl⟩
abbrev main_call5_v6 : Ref sig .tc := ⟨.hbm, 93, rfl⟩
abbrev main_call5_v7 : Ref sig .tc := ⟨.hbm, 94, rfl⟩
abbrev main_call5_v8 : Ref sig .tc := ⟨.hbm, 95, rfl⟩
abbrev main_call5_c : Ref sig .tc := ⟨.hbm, 96, rfl⟩
abbrev main_call5_v9 : Ref sig .tc := ⟨.hbm, 97, rfl⟩
abbrev main_call5_v10 : Ref sig .tc := ⟨.hbm, 98, rfl⟩
abbrev main_call5_v11 : Ref sig .tc := ⟨.hbm, 99, rfl⟩
abbrev main_call5_c_0 : Ref sig .tc := ⟨.hbm, 100, rfl⟩
abbrev main_call5_v12 : Ref sig .tc := ⟨.hbm, 101, rfl⟩
abbrev main_call5_v13 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_cst_14 : Ref sig .tc := ⟨.hbm, 109, rfl⟩
abbrev main_cst_15 : Ref sig .tc := ⟨.hbm, 110, rfl⟩
abbrev main_call6_v0 : Ref sig .tc := ⟨.hbm, 111, rfl⟩
abbrev main_call6_v1 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨3, ![8, 4, 4], ![false, false, false]⟩

@[reducible] def k0_t1_loop (i : grid0.Coords) : Scf.Loop 32 :=
  let c0_i32_226 : BitVec 32 := 0#32
  let arg2 : BitVec 32 := BitVec.ofNat 32 (i 2).val
  let c1_i32_224 : BitVec 32 := 1#32
  let v716 : BitVec 32 := Scalar.addi arg2 c1_i32_224
  let v717 : BitVec 32 := Scalar.subi v716 c0_i32_226
  let c1_i32_227 : BitVec 32 := 1#32
  let v719 : BitVec 32 := Scalar.divsi v717 c1_i32_227
  let v720 : BitVec 32 := Scalar.muli v719 c1_i32_227
  let v721 : BitVec 32 := Scalar.addi c0_i32_226 v720
  let c1_i32_228 : BitVec 32 := 1#32
  ⟨c0_i32_226, v721, c1_i32_228⟩
def k0_mult1 (i : grid0.Coords) (k0_t1 : Fin (k0_t1_loop i).trips) : BitVec 32 :=
  let c0_i32_226 : BitVec 32 := 0#32
  let c1_i32_228 : BitVec 32 := 1#32
  let arg19 : BitVec 32 := Scf.iv c0_i32_226 c1_i32_228 k0_t1
  let c512_i32_294 : BitVec 32 := 512#32
  let v879 : BitVec 32 := Scalar.muli arg19 c512_i32_294
  v879
def k0_off1 (i : grid0.Coords) (k0_t1 : Fin (k0_t1_loop i).trips) : Fin 4 → Nat :=
  let c0_295 : Index := 0#32
  let c0_296 : Index := 0#32
  let c0_i32_226 : BitVec 32 := 0#32
  let c1_i32_228 : BitVec 32 := 1#32
  let arg19 : BitVec 32 := Scf.iv c0_i32_226 c1_i32_228 k0_t1
  let c512_i32_294 : BitVec 32 := 512#32
  let v879 : BitVec 32 := Scalar.muli arg19 c512_i32_294
  let v880 : BitVec 32 := v879
  let v881 : Index := Scalar.indexCast v880
  let c0_297 : Index := 0#32
  ![0, 0, v881.toNat, 0]
def k0_off2 (i : grid0.Coords) (k0_t1 : Fin (k0_t1_loop i).trips) : Fin 3 → Nat :=
  let c0_i32_226 : BitVec 32 := 0#32
  let c1_i32_228 : BitVec 32 := 1#32
  let arg19 : BitVec 32 := Scf.iv c0_i32_226 c1_i32_228 k0_t1
  let v887 : Index := Scalar.indexCast arg19
  let c0_301 : Index := 0#32
  let c0_302 : Index := 0#32
  ![v887.toNat, 0, 0]
@[reducible] def k0_t2_loop (i : grid0.Coords) : Scf.Loop 32 :=
  let c0_i32_226 : BitVec 32 := 0#32
  let arg2 : BitVec 32 := BitVec.ofNat 32 (i 2).val
  let c1_i32_224 : BitVec 32 := 1#32
  let v716 : BitVec 32 := Scalar.addi arg2 c1_i32_224
  let v717 : BitVec 32 := Scalar.subi v716 c0_i32_226
  let c1_i32_227 : BitVec 32 := 1#32
  let v719 : BitVec 32 := Scalar.divsi v717 c1_i32_227
  let v720 : BitVec 32 := Scalar.muli v719 c1_i32_227
  let v721 : BitVec 32 := Scalar.addi c0_i32_226 v720
  let v718 : BitVec 32 := Scalar.addi c0_i32_226 v717
  let c1_i32_229 : BitVec 32 := 1#32
  ⟨v721, v718, c1_i32_229⟩
def k0_mult2 (i : grid0.Coords) (k0_t2 : Fin (k0_t2_loop i).trips) : BitVec 32 :=
  let c0_i32_226 : BitVec 32 := 0#32
  let arg2 : BitVec 32 := BitVec.ofNat 32 (i 2).val
  let c1_i32_224 : BitVec 32 := 1#32
  let v716 : BitVec 32 := Scalar.addi arg2 c1_i32_224
  let v717 : BitVec 32 := Scalar.subi v716 c0_i32_226
  let c1_i32_227 : BitVec 32 := 1#32
  let v719 : BitVec 32 := Scalar.divsi v717 c1_i32_227
  let v720 : BitVec 32 := Scalar.muli v719 c1_i32_227
  let v721 : BitVec 32 := Scalar.addi c0_i32_226 v720
  let c1_i32_229 : BitVec 32 := 1#32
  let arg19 : BitVec 32 := Scf.iv v721 c1_i32_229 k0_t2
  let c512_i32_294 : BitVec 32 := 512#32
  let v879 : BitVec 32 := Scalar.muli arg19 c512_i32_294
  v879
def k0_off3 (i : grid0.Coords) (k0_t2 : Fin (k0_t2_loop i).trips) : Fin 4 → Nat :=
  let c0_295 : Index := 0#32
  let c0_296 : Index := 0#32
  let c0_i32_226 : BitVec 32 := 0#32
  let arg2 : BitVec 32 := BitVec.ofNat 32 (i 2).val
  let c1_i32_224 : BitVec 32 := 1#32
  let v716 : BitVec 32 := Scalar.addi arg2 c1_i32_224
  let v717 : BitVec 32 := Scalar.subi v716 c0_i32_226
  let c1_i32_227 : BitVec 32 := 1#32
  let v719 : BitVec 32 := Scalar.divsi v717 c1_i32_227
  let v720 : BitVec 32 := Scalar.muli v719 c1_i32_227
  let v721 : BitVec 32 := Scalar.addi c0_i32_226 v720
  let c1_i32_229 : BitVec 32 := 1#32
  let arg19 : BitVec 32 := Scf.iv v721 c1_i32_229 k0_t2
  let c512_i32_294 : BitVec 32 := 512#32
  let v879 : BitVec 32 := Scalar.muli arg19 c512_i32_294
  let v880 : BitVec 32 := v879
  let v881 : Index := Scalar.indexCast v880
  let c0_297 : Index := 0#32
  ![0, 0, v881.toNat, 0]
def k0_off4 (i : grid0.Coords) (k0_t2 : Fin (k0_t2_loop i).trips) : Fin 3 → Nat :=
  let c0_i32_226 : BitVec 32 := 0#32
  let arg2 : BitVec 32 := BitVec.ofNat 32 (i 2).val
  let c1_i32_224 : BitVec 32 := 1#32
  let v716 : BitVec 32 := Scalar.addi arg2 c1_i32_224
  let v717 : BitVec 32 := Scalar.subi v716 c0_i32_226
  let c1_i32_227 : BitVec 32 := 1#32
  let v719 : BitVec 32 := Scalar.divsi v717 c1_i32_227
  let v720 : BitVec 32 := Scalar.muli v719 c1_i32_227
  let v721 : BitVec 32 := Scalar.addi c0_i32_226 v720
  let c1_i32_229 : BitVec 32 := 1#32
  let arg19 : BitVec 32 := Scf.iv v721 c1_i32_229 k0_t2
  let v887 : Index := Scalar.indexCast arg19
  let c0_301 : Index := 0#32
  let c0_302 : Index := 0#32
  ![v887.toNat, 0, 0]
def k0_mult3 (i : grid0.Coords) : BitVec 32 :=
  let arg2 : BitVec 32 := BitVec.ofNat 32 (i 2).val
  let c512_i32_251 : BitVec 32 := 512#32
  let v742 : BitVec 32 := Scalar.muli arg2 c512_i32_251
  let c512_i32_252 : BitVec 32 := 512#32
  let v743 : BitVec 32 := Scalar.subi v742 c512_i32_252
  let c0_i32_253 : BitVec 32 := 0#32
  let v744 : BitVec 32 := Scalar.maxsi v743 c0_i32_253
  v744
def k0_off5 (i : grid0.Coords) : Fin 4 → Nat :=
  let c0_254 : Index := 0#32
  let c0_255 : Index := 0#32
  let arg2 : BitVec 32 := BitVec.ofNat 32 (i 2).val
  let c512_i32_251 : BitVec 32 := 512#32
  let v742 : BitVec 32 := Scalar.muli arg2 c512_i32_251
  let c512_i32_252 : BitVec 32 := 512#32
  let v743 : BitVec 32 := Scalar.subi v742 c512_i32_252
  let c0_i32_253 : BitVec 32 := 0#32
  let v744 : BitVec 32 := Scalar.maxsi v743 c0_i32_253
  let v745 : BitVec 32 := v744
  let v746 : Index := Scalar.indexCast v745
  let c0_256 : Index := 0#32
  ![0, 0, v746.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.addi c24_i32 arg1
  let c0_i32 : BitVec 32 := 0#32
  ![arg0.toNat, arg2.toNat, v0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x1x2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x1x2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, false, true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, false, true]

abbrev stage0_10 : Fin 1 → Memref sig .tc .vmem S32x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 1 → Memref sig .tc .vmem S4x32x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false, false]

abbrev stage0_12 : Fin 2 → Memref sig .tc .vmem S1x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]
-- ==== KernelIdeal.lean ====
variable {F : FTy → Type} [FloatOps F] [Named F]
def κ : String → Option EReal := fun
  | "mask" => some ⊥
  | _ => none
-- ==== Kernel2.lean ====
abbrev S16384x10240 : Shape := ⟨2, ![16384, 10240]⟩
abbrev S2048 : Shape := ⟨1, ![2048]⟩
abbrev S16x128x128 : Shape := ⟨3, ![16, 128, 128]⟩
abbrev S16x128 : Shape := ⟨2, ![16, 128]⟩
abbrev S1x2048 : Shape := ⟨2, ![1, 2048]⟩
abbrev S128x16 : Shape := ⟨2, ![128, 16]⟩
abbrev S16384x2048 : Shape := ⟨2, ![16384, 2048]⟩
abbrev S128x2048 : Shape := ⟨2, ![128, 2048]⟩
abbrev S128 : Shape := ⟨1, ![128]⟩
abbrev S128x1 : Shape := ⟨2, ![128, 1]⟩
abbrev S128x128 : Shape := ⟨2, ![128, 128]⟩
abbrev S1x128x128 : Shape := ⟨3, ![1, 128, 128]⟩

abbrev nBuf : Space → Nat
  | .hbm => 9
  | .vmem => 10
  | .smem => 0
  | _ => 0

abbrev bufTy : (tb : Table) → Fin (tcTables nBuf tb) → BufTy
  | .hbm, ⟨0, _⟩ => ⟨S16384x10240, .bf16⟩
  | .hbm, ⟨1, _⟩ => ⟨S2048, .f32⟩
  | .hbm, ⟨2, _⟩ => ⟨S2048, .f32⟩
  | .hbm, ⟨3, _⟩ => ⟨S16x128x128, .f32⟩
  | .hbm, ⟨4, _⟩ => ⟨S16x128, .f32⟩
  | .hbm, ⟨5, _⟩ => ⟨S1x2048, .f32⟩
  | .hbm, ⟨6, _⟩ => ⟨S1x2048, .f32⟩
  | .hbm, ⟨7, _⟩ => ⟨S128x16, .f32⟩
  | .hbm, ⟨8, _⟩ => ⟨S16384x2048, .bf16⟩
  | .local _ .vmem, ⟨0, _⟩ => ⟨S128x2048, .bf16⟩
  | .local _ .vmem, ⟨1, _⟩ => ⟨S128x2048, .bf16⟩
  | .local _ .vmem, ⟨2, _⟩ => ⟨S128x2048, .bf16⟩
  | .local _ .vmem, ⟨3, _⟩ => ⟨S128x2048, .bf16⟩
  | .local _ .vmem, ⟨4, _⟩ => ⟨S1x2048, .f32⟩
  | .local _ .vmem, ⟨5, _⟩ => ⟨S1x2048, .f32⟩
  | .local _ .vmem, ⟨6, _⟩ => ⟨S16x128x128, .f32⟩
  | .local _ .vmem, ⟨7, _⟩ => ⟨S128x16, .f32⟩
  | .local _ .vmem, ⟨8, _⟩ => ⟨S128x2048, .bf16⟩
  | .local _ .vmem, ⟨9, _⟩ => ⟨S128x2048, .bf16⟩
  | _, _ => ⟨S16384x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S16384x10240 : Shape := ⟨2, ![16384, 10240]⟩
abbrev S2048 : Shape := ⟨1, ![2048]⟩
abbrev S16x128x128 : Shape := ⟨3, ![16, 128, 128]⟩
abbrev S16x128 : Shape := ⟨2, ![16, 128]⟩
abbrev S16384x2048 : Shape := ⟨2, ![16384, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S128x128x16x128 : Shape := ⟨4, ![128, 128, 16, 128]⟩
abbrev S128x128 : Shape := ⟨2, ![128, 128]⟩
abbrev S1x128x128 : Shape := ⟨3, ![1, 128, 128]⟩
abbrev S16x128x128x128 : Shape := ⟨4, ![16, 128, 128, 128]⟩
abbrev S128x16 : Shape := ⟨2, ![128, 16]⟩
abbrev S1x128x16x1 : Shape := ⟨4, ![1, 128, 16, 1]⟩

abbrev nBuf : Space → Nat
  | .hbm => 97
  | .vmem => 0
  | .smem => 0
  | _ => 0

abbrev bufTy : (tb : Table) → Fin (tcTables nBuf tb) → BufTy
  | .hbm, ⟨0, _⟩ => ⟨S16384x10240, .bf16⟩
  | .hbm, ⟨1, _⟩ => ⟨S2048, .f32⟩
  | .hbm, ⟨2, _⟩ => ⟨S2048, .f32⟩
  | .hbm, ⟨3, _⟩ => ⟨S16x128x128, .f32⟩
  | .hbm, ⟨4, _⟩ => ⟨S16x128, .f32⟩
  | .hbm, ⟨5, _⟩ => ⟨S16384x2048, .bf16⟩
  | .hbm, ⟨6, _⟩ => ⟨S16384x2048, .f32⟩
  | .hbm, ⟨7, _⟩ => ⟨S16384x2048, .bf16⟩
  | .hbm, ⟨8, _⟩ => ⟨S16384x2048, .f32⟩
  | .hbm, ⟨9, _⟩ => ⟨S16384x2048, .f32⟩
  | .hbm, ⟨10, _⟩ => ⟨S16384x2048, .f32⟩
  | .hbm, ⟨11, _⟩ => ⟨S_, .f32⟩
  | .hbm, ⟨12, _⟩ => ⟨S16384x2048, .f32⟩
  | .hbm, ⟨13, _⟩ => ⟨S16384x2048, .f32⟩
  | .hbm, ⟨14, _⟩ => ⟨S16384x2048, .f32⟩
  | .hbm, ⟨15, _⟩ => ⟨S_, .f32⟩
  | .hbm, ⟨16, _⟩ => ⟨S16384x2048, .f32⟩
  | .hbm, ⟨17, _⟩ => ⟨S16384x2048, .f32⟩
  | .hbm, ⟨18, _⟩ => ⟨S16384x2048, .f32⟩
  | .hbm, ⟨19, _⟩ => ⟨S_, .f32⟩
  | .hbm, ⟨20, _⟩ => ⟨S16384x2048, .f32⟩
  | .hbm, ⟨21, _⟩ => ⟨S16384x2048, .f32⟩
  | .hbm, ⟨22, _⟩ => ⟨S_, .f32⟩
  | .hbm, ⟨23, _⟩ => ⟨S16384x2048, .f32⟩
  | .hbm, ⟨24, _⟩ => ⟨S16384x2048, .f32⟩
  | .hbm, ⟨25, _⟩ => ⟨S16384x2048, .f32⟩
  | .hbm, ⟨26, _⟩ => ⟨S16384x2048, .f32⟩
  | .hbm, ⟨27, _⟩ => ⟨S16384x2048, .f32⟩
  | .hbm, ⟨28, _⟩ => ⟨S_, .f32⟩
  | .hbm, ⟨29, _⟩ => ⟨S16384x2048, .f32⟩
  | .hbm, ⟨30, _⟩ => ⟨S16384x2048, .f32⟩
  | .hbm, ⟨31, _⟩ => ⟨S16384x2048, .f32⟩
  | .hbm, ⟨32, _⟩ => ⟨S_, .f32⟩
  | .hbm, ⟨33, _⟩ => ⟨S16384x2048, .f32⟩
  | .hbm, ⟨34, _⟩ => ⟨S16384x2048, .f32⟩
  | .hbm, ⟨35, _⟩ => ⟨S16384x2048, .f32⟩
  | .hbm, ⟨36, _⟩ => ⟨S_, .f32⟩
  | .hbm, ⟨37, _⟩ => ⟨S16384x2048, .f32⟩
  | .hbm, ⟨38, _⟩ => ⟨S16384x2048, .f32⟩
  | .hbm, ⟨39, _⟩ => ⟨S_, .f32⟩
  | .hbm, ⟨40, _⟩ => ⟨S16384x2048, .f32⟩
  | .hbm, ⟨41, _⟩ => ⟨S16384x2048, .f32⟩
  | .hbm, ⟨42, _⟩ => ⟨S16384x2048, .f32⟩
  | .hbm, ⟨43, _⟩ => ⟨S_, .f32⟩
  | .hbm, ⟨44, _⟩ => ⟨S16384, .f32⟩
  | .hbm, ⟨45, _⟩ => ⟨S16384x1, .f32⟩
  | .hbm, ⟨46, _⟩ => ⟨S_, .f32⟩
  | .hbm, ⟨47, _⟩ => ⟨S16384x1, .f32⟩
  | .hbm, ⟨48, _⟩ => ⟨S16384x1, .f32⟩
  | .hbm, ⟨49, _⟩ => ⟨S16384x2048, .f32⟩
  | .hbm, ⟨50, _⟩ => ⟨S16384x2048, .f32⟩
  | .hbm, ⟨51, _⟩ => ⟨S16384x2048, .f32⟩
  | .hbm, ⟨52, _⟩ => ⟨S_, .f32⟩
  | .hbm, ⟨53, _⟩ => ⟨S16384, .f32⟩
  | .hbm, ⟨54, _⟩ => ⟨S16384x1, .f32⟩
  | .hbm, ⟨55, _⟩ => ⟨S_, .f32⟩
  | .hbm, ⟨56, _⟩ => ⟨S16384x1, .f32⟩
  | .hbm, ⟨57, _⟩ => ⟨S16384x1, .f32⟩
  | .hbm, ⟨58, _⟩ => ⟨S_, .f32⟩
  | .hbm, ⟨59, _⟩ => ⟨S16384x1, .f32⟩
  | .hbm, ⟨60, _⟩ => ⟨S16384x1, .f32⟩
  | .hbm, ⟨61, _⟩ => ⟨S16384x1, .f32⟩
  | .hbm, ⟨62, _⟩ => ⟨S16384x2048, .f32⟩
  | .hbm, ⟨63, _⟩ => ⟨S16384x2048, .f32⟩
  | .hbm, ⟨64, _⟩ => ⟨S1x2048, .f32⟩
  | .hbm, ⟨65, _⟩ => ⟨S16384x2048, .f32⟩
  | .hbm, ⟨66, _⟩ => ⟨S16384x2048, .f32⟩
  | .hbm, ⟨67, _⟩ => ⟨S1x2048, .f32⟩
  | .hbm, ⟨68, _⟩ => ⟨S16384x2048, .f32⟩
  | .hbm, ⟨69, _⟩ => ⟨S16384x2048, .f32⟩
  | .hbm, ⟨70, _⟩ => ⟨S128x128x16x128, .f32⟩
  | .hbm, ⟨71, _⟩ => ⟨S_, .i1⟩
  | .hbm, ⟨72, _⟩ => ⟨S128x128, .i1⟩
  | .hbm, ⟨73, _⟩ => ⟨S128x128, .i32⟩
  | .hbm, ⟨74, _⟩ => ⟨S_, .i32⟩
  | .hbm, ⟨75, _⟩ => ⟨S128x128, .i32⟩
  | .hbm, ⟨76, _⟩ => ⟨S128x128, .i32⟩
  | .hbm, ⟨77, _⟩ => ⟨S128x128, .i32⟩
  | .hbm, ⟨78, _⟩ => ⟨S128x128, .i1⟩
  | .hbm, ⟨79, _⟩ => ⟨S_, .i1⟩
  | .hbm, ⟨80, _⟩ => ⟨S128x128, .i1⟩
  | .hbm, ⟨81, _⟩ => ⟨S128x128, .i1⟩
  | .hbm, ⟨82, _⟩ => ⟨S1x128x128, .i1⟩
  | .hbm, ⟨83, _⟩ => ⟨S_, .f32⟩
  | .hbm, ⟨84, _⟩ => ⟨S_, .f32⟩
  | .hbm, ⟨85, _⟩ => ⟨S16x128x128, .i1⟩
  | .hbm, ⟨86, _⟩ => ⟨S16x128x128, .f32⟩
  | .hbm, ⟨87, _⟩ => ⟨S16x128x128, .f32⟩
  | .hbm, ⟨88, _⟩ => ⟨S16x128x128x128, .f32⟩
  | .hbm, ⟨89, _⟩ => ⟨S128x128x16x128, .f32⟩
  | .hbm, ⟨90, _⟩ => ⟨S128x16, .f32⟩
  | .hbm, ⟨91, _⟩ => ⟨S1x128x16x1, .f32⟩
  | .hbm, ⟨92, _⟩ => ⟨S128x128x16x128, .f32⟩
  | .hbm, ⟨93, _⟩ => ⟨S128x128x16x128, .f32⟩
  | .hbm, ⟨94, _⟩ => ⟨S16384x2048, .f32⟩
  | .hbm, ⟨95, _⟩ => ⟨S16384x2048, .f32⟩
  | .hbm, ⟨96, _⟩ => ⟨S16384x2048, .bf16⟩
  | _, _ => ⟨S16384x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_cst_8 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_cst_10 : Ref sig .tc := ⟨.hbm, 55, rfl⟩
abbrev main_v39 : Ref sig .tc := ⟨.hbm, 56, rfl⟩
abbrev main_v40 : Ref sig .tc := ⟨.hbm, 57, rfl⟩
abbrev main_cst_11 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_c : Ref sig .tc := ⟨.hbm, 71, rfl⟩
abbrev main_v53 : Ref sig .tc := ⟨.hbm, 72, rfl⟩
abbrev main_call0_v0 : Ref sig .tc := ⟨.hbm, 73, rfl⟩
abbrev main_call0_c : Ref sig .tc := ⟨.hbm, 74, rfl⟩
abbrev main_call0_v1 : Ref sig .tc := ⟨.hbm, 75, rfl⟩
abbrev main_call0_v2 : Ref sig .tc := ⟨.hbm, 76, rfl⟩
abbrev main_call0_v3 : Ref sig .tc := ⟨.hbm, 77, rfl⟩
abbrev main_call0_v4 : Ref sig .tc := ⟨.hbm, 78, rfl⟩
abbrev main_call0_c_0 : Ref sig .tc := ⟨.hbm, 79, rfl⟩
abbrev main_call0_v5 : Ref sig .tc := ⟨.hbm, 80, rfl⟩
abbrev main_v54 : Ref sig .tc := ⟨.hbm, 81, rfl⟩
abbrev main_v55 : Ref sig .tc := ⟨.hbm, 82, rfl⟩
abbrev main_cst_12 : Ref sig .tc := ⟨.hbm, 83, rfl⟩
abbrev main_call1_v0 : Ref sig .tc := ⟨.hbm, 84, rfl⟩
abbrev main_call1_v1 : Ref sig .tc := ⟨.hbm, 85, rfl⟩
abbrev main_call1_v2 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩

abbrev nD : Nat := 1
abbrev τ : Topo := Topo.v7x

variable {F : FTy → Type} [FloatOps F]
-- ==== Kernel3.lean ====
abbrev S16384x2048 : Shape := ⟨2, ![16384, 2048]⟩
abbrev S2048x13360 : Shape := ⟨2, ![2048, 13360]⟩
abbrev S2048x2048 : Shape := ⟨2, ![2048, 2048]⟩
abbrev S2048x3072 : Shape := ⟨2, ![2048, 3072]⟩
abbrev S2048x48 : Shape := ⟨2, ![2048, 48]⟩
abbrev S2048x4096 : Shape := ⟨2, ![2048, 4096]⟩
abbrev S2048x4x12 : Shape := ⟨3, ![2048, 4, 12]⟩
abbrev S_ : Shape := ⟨0, ![]⟩
abbrev S2048x4x128 : Shape := ⟨3, ![2048, 4, 128]⟩
abbrev S2048x512 : Shape := ⟨2, ![2048, 512]⟩
abbrev S2048x10240 : Shape := ⟨2, ![2048, 10240]⟩
abbrev S2048x3584 : Shape := ⟨2, ![2048, 3584]⟩
abbrev S16384x10240 : Shape := ⟨2, ![16384, 10240]⟩
abbrev S1024x2048 : Shape := ⟨2, ![1024, 2048]⟩

abbrev nBuf : Space → Nat
  | .hbm => 18
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2048x13360, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x3072, .f32⟩
  | .hbm, ⟨6, _⟩ => ⟨S2048x48, .f32⟩
  | .hbm, ⟨7, _⟩ => ⟨S2048x4096, .f32⟩
  | .hbm, ⟨8, _⟩ => ⟨S2048x4x12, .f32⟩
  | .hbm, ⟨9, _⟩ => ⟨S_, .i32⟩
  | .hbm, ⟨10, _⟩ => ⟨S_, .f32⟩
  | .hbm, ⟨11, _⟩ => ⟨S2048x4x128, .f32⟩
  | .hbm, ⟨12, _⟩ => ⟨S2048x512, .f32⟩
  | .hbm, ⟨13, _⟩ => ⟨S2048x10240, .f32⟩
  | .hbm, ⟨14, _⟩ => ⟨S2048x10240, .bf16⟩
  | .hbm, ⟨15, _⟩ => ⟨S2048x3584, .f32⟩
  | .hbm, ⟨16, _⟩ => ⟨S2048x3584, .bf16⟩
  | .hbm, ⟨17, _⟩ => ⟨S16384x10240, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_call0_v0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![5, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S16384x2048 : Shape := ⟨2, ![16384, 2048]⟩
abbrev S2048x13360 : Shape := ⟨2, ![2048, 13360]⟩
abbrev S16384x13360 : Shape := ⟨2, ![16384, 13360]⟩
abbrev S16384x6144 : Shape := ⟨2, ![16384, 6144]⟩
abbrev S16384x4096 : Shape := ⟨2, ![16384, 4096]⟩
abbrev S16384x10240 : Shape := ⟨2, ![16384, 10240]⟩

abbrev nBuf : Space → Nat
  | .hbm => 8
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x13360, .f32⟩
  | .hbm, ⟨2, _⟩ => ⟨S16384x2048, .f32⟩
  | .hbm, ⟨3, _⟩ => ⟨S16384x13360, .f32⟩
  | .hbm, ⟨4, _⟩ => ⟨S16384x6144, .f32⟩
  | .hbm, ⟨5, _⟩ => ⟨S16384x4096, .f32⟩
  | .hbm, ⟨6, _⟩ => ⟨S16384x10240, .f32⟩
  | .hbm, ⟨7, _⟩ => ⟨S16384x10240, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel4.lean ====
abbrev S16384x2048 : Shape := ⟨2, ![16384, 2048]⟩
abbrev S2048x13360 : Shape := ⟨2, ![2048, 13360]⟩
abbrev S2048x2048 : Shape := ⟨2, ![2048, 2048]⟩
abbrev S2048x3072 : Shape := ⟨2, ![2048, 3072]⟩
abbrev S2048x48 : Shape := ⟨2, ![2048, 48]⟩
abbrev S2048x4096 : Shape := ⟨2, ![2048, 4096]⟩
abbrev S2048x4x12 : Shape := ⟨3, ![2048, 4, 12]⟩
abbrev S_ : Shape := ⟨0, ![]⟩
abbrev S2048x4x128 : Shape := ⟨3, ![2048, 4, 128]⟩
abbrev S2048x512 : Shape := ⟨2, ![2048, 512]⟩
abbrev S2048x10240 : Shape := ⟨2, ![2048, 10240]⟩
abbrev S2048x3584 : Shape := ⟨2, ![2048, 3584]⟩
abbrev S16384x3584 : Shape := ⟨2, ![16384, 3584]⟩
abbrev S1024x2048 : Shape := ⟨2, ![1024, 2048]⟩
abbrev S2048x1792 : Shape := ⟨2, ![2048, 1792]⟩
abbrev S1024x1792 : Shape := ⟨2, ![1024, 1792]⟩

abbrev nBuf : Space → Nat
  | .hbm => 18
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2048x13360, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x3072, .f32⟩
  | .hbm, ⟨6, _⟩ => ⟨S2048x48, .f32⟩
  | .hbm, ⟨7, _⟩ => ⟨S2048x4096, .f32⟩
  | .hbm, ⟨8, _⟩ => ⟨S2048x4x12, .f32⟩
  | .hbm, ⟨9, _⟩ => ⟨S_, .i32⟩
  | .hbm, ⟨10, _⟩ => ⟨S_, .f32⟩
  | .hbm, ⟨11, _⟩ => ⟨S2048x4x128, .f32⟩
  | .hbm, ⟨12, _⟩ => ⟨S2048x512, .f32⟩
  | .hbm, ⟨13, _⟩ => ⟨S2048x10240, .f32⟩
  | .hbm, ⟨14, _⟩ => ⟨S2048x10240, .bf16⟩
  | .hbm, ⟨15, _⟩ => ⟨S2048x3584, .f32⟩
  | .hbm, ⟨16, _⟩ => ⟨S2048x3584, .bf16⟩
  | .hbm, ⟨17, _⟩ => ⟨S16384x3584, .f32⟩
  | .local _ .vmem, ⟨0, _⟩ => ⟨S1024x2048, .bf16⟩
  | .local _ .vmem, ⟨1, _⟩ => ⟨S1024x2048, .bf16⟩
  | .local _ .vmem, ⟨2, _⟩ => ⟨S2048x1792, .bf16⟩
  | .local _ .vmem, ⟨3, _⟩ => ⟨S2048x1792, .bf16⟩
  | .local _ .vmem, ⟨4, _⟩ => ⟨S1024x1792, .f32⟩
  | .local _ .vmem, ⟨5, _⟩ => ⟨S1024x1792, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_call0_v0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S16384x2048 : Shape := ⟨2, ![16384, 2048]⟩
abbrev S2048x13360 : Shape := ⟨2, ![2048, 13360]⟩
abbrev S16384x13360 : Shape := ⟨2, ![16384, 13360]⟩
abbrev S16384x48 : Shape := ⟨2, ![16384, 48]⟩
abbrev S16384x4x12 : Shape := ⟨3, ![16384, 4, 12]⟩
abbrev S_ : Shape := ⟨0, ![]⟩
abbrev S16384x4x128 : Shape := ⟨3, ![16384, 4, 128]⟩
abbrev S16384x512 : Shape := ⟨2, ![16384, 512]⟩
abbrev S16384x3072 : Shape := ⟨2, ![16384, 3072]⟩
abbrev S16384x3584 : Shape := ⟨2, ![16384, 3584]⟩

abbrev nBuf : Space → Nat
  | .hbm => 12
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x13360, .f32⟩
  | .hbm, ⟨2, _⟩ => ⟨S16384x2048, .f32⟩
  | .hbm, ⟨3, _⟩ => ⟨S16384x13360, .f32⟩
  | .hbm, ⟨4, _⟩ => ⟨S16384x48, .f32⟩
  | .hbm, ⟨5, _⟩ => ⟨S16384x4x12, .f32⟩
  | .hbm, ⟨6, _⟩ => ⟨S_, .i32⟩
  | .hbm, ⟨7, _⟩ => ⟨S_, .f32⟩
  | .hbm, ⟨8, _⟩ => ⟨S16384x4x128, .f32⟩
  | .hbm, ⟨9, _⟩ => ⟨S16384x512, .f32⟩
  | .hbm, ⟨10, _⟩ => ⟨S16384x3072, .f32⟩
  | .hbm, ⟨11, _⟩ => ⟨S16384x3584, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel5.lean ====
abbrev S16384x10240 : Shape := ⟨2, ![16384, 10240]⟩
abbrev S16384x2048 : Shape := ⟨2, ![16384, 2048]⟩
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 11
  | .vmem => 18
  | .smem => 0
  | _ => 0

abbrev bufTy : (tb : Table) → Fin (tcTables nBuf tb) → BufTy
  | .hbm, ⟨0, _⟩ => ⟨S16384x10240, .bf16⟩
  | .hbm, ⟨1, _⟩ => ⟨S16384x2048, .bf16⟩
  | .hbm, ⟨2, _⟩ => ⟨S16384x2048, .bf16⟩
  | .hbm, ⟨3, _⟩ => ⟨S16384x2048, .f32⟩
  | .hbm, ⟨4, _⟩ => ⟨S2048x2048, .f32⟩
  | .hbm, ⟨5, _⟩ => ⟨S2048, .f32⟩
  | .hbm, ⟨6, _⟩ => ⟨S2048x2048, .bf16⟩
  | .hbm, ⟨7, _⟩ => ⟨S1x2048, .f32⟩
  | .hbm, ⟨8, _⟩ => ⟨S16384x2048, .f32⟩
  | .hbm, ⟨9, _⟩ => ⟨S16384x2048, .f32⟩
  | .hbm, ⟨10, _⟩ => ⟨S16384x2048, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .f32⟩
  | .local _ .vmem, ⟨9, _⟩ => ⟨S256x2048, .f32⟩
  | .local _ .vmem, ⟨10, _⟩ => ⟨S2048x2048, .bf16⟩
  | .local _ .vmem, ⟨11, _⟩ => ⟨S1x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .bf16⟩
  | .local _ .vmem, ⟨17, _⟩ => ⟨S256x2048, .bf16⟩
  | _, _ => ⟨S16384x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference5Ideal.lean ====
abbrev S16384x10240 : Shape := ⟨2, ![16384, 10240]⟩
abbrev S16384x2048 : Shape := ⟨2, ![16384, 2048]⟩
abbrev S2048x2048 : Shape := ⟨2, ![2048, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 50
  | .vmem => 0
  | .smem => 0
  | _ => 0

abbrev bufTy : (tb : Table) → Fin (tcTables nBuf tb) → BufTy
  | .hbm, ⟨0, _⟩ => ⟨S16384x10240, .bf16⟩
  | .hbm, ⟨1, _⟩ => ⟨S16384x2048, .bf16⟩
  | .hbm, ⟨2, _⟩ => ⟨S16384x2048, .bf16⟩
  | .hbm, ⟨3, _⟩ => ⟨S16384x2048, .f32⟩
  | .hbm, ⟨4, _⟩ => ⟨S2048x2048, .f32⟩
  | .hbm, ⟨5, _⟩ => ⟨S2048, .f32⟩
  | .hbm, ⟨6, _⟩ => ⟨S16384x2048, .bf16⟩
  | .hbm, ⟨7, _⟩ => ⟨S16384x2048, .f32⟩
  | .hbm, ⟨8, _⟩ => ⟨S16384x2048, .bf16⟩
  | .hbm, ⟨9, _⟩ => ⟨S16384x2048, .f32⟩
  | .hbm, ⟨10, _⟩ => ⟨S16384x2048, .f32⟩
  | .hbm, ⟨11, _⟩ => ⟨S16384x2048, .f32⟩
  | .hbm, ⟨12, _⟩ => ⟨S_, .f32⟩
  | .hbm, ⟨13, _⟩ => ⟨S16384x2048, .f32⟩
  | .hbm, ⟨14, _⟩ => ⟨S16384x2048, .f32⟩
  | .hbm, ⟨15, _⟩ => ⟨S_, .f32⟩
  | .hbm, ⟨16, _⟩ => ⟨S16384x2048, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S16384x2048, .f32⟩
  | .hbm, ⟨21, _⟩ => ⟨S16384x2048, .f32⟩
  | .hbm, ⟨22, _⟩ => ⟨S_, .f32⟩
  | .hbm, ⟨23, _⟩ => ⟨S16384x2048, .f32⟩
  | .hbm, ⟨24, _⟩ => ⟨S16384x2048, .f32⟩
  | .hbm, ⟨25, _⟩ => ⟨S_, .f32⟩
  | .hbm, ⟨26, _⟩ => ⟨S16384x2048, .f32⟩
  | .hbm, ⟨27, _⟩ => ⟨S16384x2048, .f32⟩
  | .hbm, ⟨28, _⟩ => ⟨S16384x2048, .f32⟩
  | .hbm, ⟨29, _⟩ => ⟨S16384x2048, .f32⟩
  | .hbm, ⟨30, _⟩ => ⟨S16384x2048, .f32⟩
  | .hbm, ⟨31, _⟩ => ⟨S16384x2048, .f32⟩
  | .hbm, ⟨32, _⟩ => ⟨S16384x2048, .f32⟩
  | .hbm, ⟨33, _⟩ => ⟨S16384x2048, .f32⟩
  | .hbm, ⟨34, _⟩ => ⟨S_, .f32⟩
  | .hbm, ⟨35, _⟩ => ⟨S16384, .f32⟩
  | .hbm, ⟨36, _⟩ => ⟨S16384x1, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S16384x1, .f32⟩
  | .hbm, ⟨44, _⟩ => ⟨S16384x2048, .f32⟩
  | .hbm, ⟨45, _⟩ => ⟨S16384x2048, .f32⟩
  | .hbm, ⟨46, _⟩ => ⟨S1x2048, .f32⟩
  | .hbm, ⟨47, _⟩ => ⟨S16384x2048, .f32⟩
  | .hbm, ⟨48, _⟩ => ⟨S16384x2048, .f32⟩
  | .hbm, ⟨49, _⟩ => ⟨S16384x2048, .bf16⟩
  | _, _ => ⟨S16384x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Kernel6.lean ====
abbrev S16384x2048 : Shape := ⟨2, ![16384, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S2048x2048, .bf16⟩
  | .hbm, ⟨3, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S16384x2048 : Shape := ⟨2, ![16384, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16384x2048, .f32⟩
  | .hbm, ⟨3, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Gmlp.lean ====
module

public import proofs.«01_k».proof.Proof.Gen.Kernel2Ideal.Value
public import proofs.«01_k».proof.Proof.Gen.Reference2Ideal.Run
public import proofs.«01_k».proof.Proof.Gen.Reference2Ideal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

/-! The spatial gating unit: inside each 128-token block the normalised second half is mixed by a causal
    matrix per channel group, and multiplies the activated first half. -/

namespace Cert.Gmlp

open Cert.Kernel2Ideal Cert.Kernel2Ideal.Gen

/-- The activation, in its tanh form. -/
def gelu (u : EReal) : EReal :=
  Ideal.ofBits .f32 1056964608#32 * u * (1 + Ideal.tanh (Ideal.ofBits .f32 1061962282#32 * (u + Ideal.ofBits .f32 1027024659#32 * (u * u * u))))

variable (P : FVec Ideal S16384x10240 .bf16) (G B : FVec Ideal S2048 .f32) (Ws : FVec Ideal S16x128x128 .f32) (Bs : FVec Ideal S16x128 .f32)

/-- A row less its mean, over the root of its variance, scaled and shifted. -/
def layerNorm (z : Fin 2048 → EReal) (g b : EReal) (j : Fin 2048) : EReal :=
  (z j - Ideal.div (∑ k, z k) (Ideal.ofBits .f32 1157627904#32))
    * Ideal.rsqrt (Ideal.div (∑ k, (z k - Ideal.div (∑ l, z l) (Ideal.ofBits .f32 1157627904#32)) * (z k - Ideal.div (∑ l, z l) (Ideal.ofBits .f32 1157627904#32)))
        (Ideal.ofBits .f32 1157627904#32) + Ideal.ofBits .f32 897988541#32) * g + b

/-- The reference's spelling of the activation. -/
theorem gelu_eq (u : EReal) : u * (Ideal.ofBits .f32 1056964608#32 * (1 + Ideal.tanh (Ideal.ofBits .f32 1061962282#32 * (u + Ideal.ofBits .f32 1027024659#32 * (u * u * u))))) = gelu u := by
  exact (mul_left_comm _ _ _).trans (mul_assoc _ _ _).symm

/-- A row and a column of the arrays are in their ranges. -/
theorem row_lt (i : S16384x2048.Idx) : (i 0 : ℕ) < 16384 := (i 0).isLt
theorem col_lt (i : S16384x2048.Idx) : (i 1 : ℕ) < 2048 := (i 1).isLt

open Cert.Reference2Ideal.Read in
/-- The activated first half. -/
theorem act_apply (i : S16384x2048.Idx) : val_main_v16 (F := Ideal) P i = gelu (P (ix2 (i 0) ⟨i 1, by have := col_lt i; omega⟩)) := by
  pointwise [val_main_v0, val_main_v1, val_main_v2, val_main_v3, val_main_v4, val_main_v5, val_main_cst, val_main_v6, val_main_v7, val_main_v8, val_main_cst_0, val_main_v9, val_main_v10, val_main_v11, val_main_cst_1, val_main_v12, val_main_v13, val_main_cst_2, val_main_v14, val_main_v15, val_main_v16]
  simp only [gelu_eq]

open Cert.Reference2Ideal.Read in
/-- The normalised second half. -/
theorem ln_apply (i : S16384x2048.Idx) : val_main_v51 (F := Ideal) P G B i
    = layerNorm (fun k => gelu (P (ix2 (i 0) ⟨2048 + k, by omega⟩))) (G (ix1 (i 1))) (B (ix1 (i 1))) (i 1) := by
  pointwise [val_main_v0, val_main_v1, val_main_v2, val_main_v3, val_main_v4, val_main_v5, val_main_cst, val_main_v6, val_main_v7, val_main_v8, val_main_cst_0, val_main_v9, val_main_v10, val_main_v11, val_main_cst_1, val_main_v12, val_main_v13, val_main_cst_2, val_main_v14, val_main_v15, val_main_v16, val_main_v17, val_main_v18, val_main_cst_3, val_main_v19, val_main_v20, val_main_v21, val_main_cst_4, val_main_v22, val_main_v23, val_main_v24, val_main_cst_5, val_main_v25, val_main_v26, val_main_cst_6, val_main_v27, val_main_v28, val_main_v29, val_main_cst_7, val_main_v30, val_main_v31, val_main_cst_8, val_main_v32, val_main_v33, val_main_v34, val_main_v35, val_main_v36, val_main_cst_9, val_main_v37, val_main_v38, val_main_cst_10, val_main_v39, val_main_v40, val_main_cst_11, val_main_v41, val_main_v42, val_main_v43, val_main_v44, val_main_v45, val_main_v46, val_main_v47, val_main_v48, val_main_v49, val_main_v50, val_main_v51]
  simp only [gelu_eq]
  rfl

/-- A causal weight: the entry where the source is not after the target, else nothing. -/
def causal (w : EReal) (t s : ℕ) : EReal := if s ≤ t then w else 0

theorem causal_kernel (t s : ℕ) (ht : t < 128) (hs : s < 128) (w v : EReal) : Scalar.select (IntOp.cmpi CmpIPredicate.sge (BitVec.ofNat 32 t) (BitVec.ofNat 32 s)) (w * v) (0 : EReal)
    = causal w t s * v := by
  have h : ∀ t s : Fin 128, IntOp.cmpi CmpIPredicate.sge (BitVec.ofNat 32 t) (BitVec.ofNat 32 s) = if (s : ℕ) ≤ t then 1#1 else 0#1 := by
    decide +kernel
  rw [h ⟨t, ht⟩ ⟨s, hs⟩]; unfold causal
  show Scalar.select (if s ≤ t then 1#1 else 0#1) _ _ = _
  split <;> simp [Scalar.select]

theorem causal_ref (t s : ℕ) (ht : t < 128) (hs : s < 128) (w z : EReal) : Scalar.select (Scalar.select
                (IntOp.cmpi CmpIPredicate.sge (IntOp.addi (BitVec.ofNat 32 t) 0#32) (BitVec.ofNat 32 s)) 1#1 0#1) w z
    = if s ≤ t then w else z := by
  have h : ∀ t s : Fin 128, Scalar.select (IntOp.cmpi CmpIPredicate.sge (IntOp.addi (BitVec.ofNat 32 t) 0#32) (BitVec.ofNat 32 s)) 1#1 0#1 = if (s : ℕ) ≤ t then 1#1 else 0#1 := by
    decide +kernel
  rw [h ⟨t, ht⟩ ⟨s, hs⟩]
  show Scalar.select (if s ≤ t then 1#1 else 0#1) w z = _
  split <;> simp [Scalar.select]

open Cert.Reference2Ideal.Read in
/-- The reference's result at a row and a column. -/
theorem out_apply (i : S16384x2048.Idx) : val_main_v65 (F := Ideal) P G B Ws Bs i
    = gelu (P (ix2 (i 0) ⟨i 1, by have := col_lt i; omega⟩)) * (∑ s : Fin 128, causal (Ws (ix3 ⟨(i 1 : ℕ) / 128, by have := col_lt i; omega⟩ ⟨(i 0 : ℕ) % 128, by omega⟩ s)) ((i 0 : ℕ) % 128) s
        * layerNorm (fun k => gelu (P (ix2 ⟨(i 0 : ℕ) / 128 * 128 + s, by have := row_lt i; omega⟩ ⟨2048 + k, by omega⟩))) (G (ix1 (i 1))) (B (ix1 (i 1))) (i 1)
      + Bs (ix2 ⟨(i 1 : ℕ) / 128, by have := col_lt i; omega⟩ ⟨(i 0 : ℕ) % 128, by omega⟩)) := by
  have h1 := ln_apply P G B
  have h2 := act_apply P
  unfold val_main_v65 val_main_v64 val_main_v63 val_main_v62 val_main_v58 val_main_v57 val_main_v52
  revert h1 h2
  generalize val_main_v51 (F := Ideal) P G B = N
  generalize val_main_v16 (F := Ideal) P = U
  intro h1 h2
  pointwise [val_main_v52, val_main_c, val_main_v53, val_main_call0_v0, val_main_call0_c, val_main_call0_v1, val_main_call0_v2, val_main_call0_v3, val_main_call0_v4, val_main_call0_c_0, val_main_call0_v5, val_main_v54, val_main_v55, val_main_cst_12, val_main_call1_v0, val_main_call1_v1, val_main_call1_v2, val_main_v56, val_main_v57, val_main_v58, val_main_v59, val_main_v60, val_main_v61, val_main_v62, val_main_v63, val_main_v64, val_main_v65]
  rw [h2]
  congr 2
  refine Finset.sum_congr rfl fun s _ => ?_
  rw [h1, causal_ref _ _ (by omega) (by omega), mul_comm]
  unfold causal
  congr 1
  split
  · rfl
  · show Ideal.ofBits .f32 0#32 = 0
    exact Ideal.ofBits_zero _

/-- The kernel's normalised second half. -/
theorem ln_point (v g b) (i : S128x2048.Idx) : k0_pay2 (F := Ideal) v g b i
    = layerNorm (fun k => gelu (v (ix2 (i 0) k))) (g (ix2 0 (i 1))) (b (ix2 0 (i 1))) (i 1) := by
  pointwise [k0_pay2]
  have e : v (ix2 (i 0) (i 1)) = v i := congrArg v (by blk_ext)
  simp only [layerNorm, gelu, e]

/-- What the body leaves in its output block, at a row and a column. -/
theorem block (x0 x1 x2 x3 x4 x5) (y : S128x2048.Idx) (q : Fin 16) (hq : (q : ℕ) = (y 1 : ℕ) / 128) : out0_6 (F := Ideal) x0 x1 x2 x3 x4 x5 y
    = gelu (x0 y) * (∑ s : Fin 128, causal (x4 (ix3 q (y 0) s)) (y 0) s * k0_pay2 (F := Ideal) x1 x2 x3 (ix2 s (y 1))
      + x5 (ix2 (y 0) q)) := by
  unfold_out out0_6
  canon_tiles x h
  all_goals
    open_payloads; pointwise
    simp only [causal_kernel _ _ x0_lt (Fin.is_lt _), h0]
    refine congrArg₂ (fun a b : EReal => a * b) (congrArg gelu ?_) (congrArg₂ (fun a b : EReal => a + b)
      (Finset.sum_congr rfl fun s _ => congrArg₂ (fun a b : EReal => a * b) (congrArg (fun w => causal w (x 0) s) ?_) ?_) ?_) <;> blk_ext

variable (m : (ℓ : Loc nD τ sig) → Buf (Elt Ideal) ℓ)

/-- The block of every window at a grid point. -/
theorem idx : ∀ t : Fin cfg0.N, win0_0.index t = ![t.val, 0] ∧ win0_1.index t = ![t.val, 1] ∧ win0_2.index t = ![0, 0]
    ∧ win0_3.index t = ![0, 0] ∧ win0_4.index t = ![0, 0, 0] ∧ win0_5.index t = ![0, 0] ∧ win0_6.index t = ![t.val, 0] :=
  (by decide +kernel : ∀ t : Fin grid0.N, _)

/-- The reference's result at a device. -/
abbrev outOf (c : Dev nD) : FVec Ideal S16384x2048 .bf16 :=
  Cert.Reference2Ideal.Read.val_main_v65 (F := Ideal) (m ((c : Thread nD τ).loc main_arg0)) (m ((c : Thread nD τ).loc main_arg1)) (m ((c : Thread nD τ).loc main_arg2))
    (m ((c : Thread nD τ).loc main_arg3)) (m ((c : Thread nD τ).loc main_arg4))

/-- One output block holds the reference's entries. -/
theorem point (c : Dev nD) (t : Fin cfg0.N) (y) :
    out0_6 (F := Ideal) (iblk m c 0 t) (iblk m c 1 t) (iblk m c 2 t) (iblk m c 3 t) (iblk m c 4 t) (iblk m c 5 t) y
      = outOf m c (((cfg0.win 6).blk t).view.emb y) := by
  have hy : (y 1 : ℕ) < 2048 := (y 1).isLt
  refine (block _ _ _ _ _ _ y ⟨(y 1 : ℕ) / 128, by omega⟩ rfl).trans ?_
  refine Eq.trans ?_ (out_apply _ _ _ _ _ _).symm
  have e : ((((cfg0.win 6).blk t).view.emb y 0 : Fin 16384) : ℕ) % 128 = y 0 := by
    have hy : (y 0 : ℕ) < 128 := (y 0).isLt
    blk_simp [idx t]
    try omega
  simp only [ln_point, e]
  blk_point [iblk, V, idx t]

/-- The result array is the reference's. -/
theorem final (c : Dev nD) : (dats m 0 c).arrAt 6 (cfgs 0).N = outOf m c := by
  refine (dats m 0 c).arrAt_eq_of_covers 6 _ (by decide +kernel) fun t _ y => ?_
  blk_simp
  rw [after0_6]
  exact point m c t y

end Cert.Gmlp

end
-- ==== Proof.ProjA.lean ====
module

public import proofs.«01_k».proof.Proof.Gen.Kernel3Ideal.Value
public import proofs.«01_k».proof.Proof.Gen.Reference3Ideal.Run
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

/-! The gating, query and merge columns of the input projection are the matrix product. -/

namespace Cert.ProjA

section
open Cert.Reference3Ideal Cert.Reference3Ideal.Gen

/-- The columns of the tokens times the input weights that feed the mixers and the merge. -/
abbrev product (X : FVec Ideal S16384x2048 .bf16) (W : FVec Ideal S2048x13360 .f32) : FVec Ideal S16384x10240 .bf16 :=
  truncf .bf16 (concatenate S16384x10240 1 [⟨S16384x6144, (extractStridedSlice S16384x6144 ![0, 0] (Host.dotGeneral dot_S16384x2048_S2048x13360_S16384x13360_1_0_0_1_n_n none (extf .f32 X bitsLt_bf16_f32) W) slices_S16384x13360_S16384x6144_0_0)⟩, ⟨S16384x4096, (extractStridedSlice S16384x4096 ![0, 9264] (Host.dotGeneral dot_S16384x2048_S2048x13360_S16384x13360_1_0_0_1_n_n none (extf .f32 X bitsLt_bf16_f32) W) slices_S16384x13360_S16384x4096_0_9264)⟩] concatenates_S16384x6144_S16384x4096_S16384x10240_d1) bitsLt_bf16_f32
end

open Cert.Kernel3Ideal Cert.Kernel3Ideal.Gen

variable (m : (ℓ : Loc nD τ sig) → Buf (Elt Ideal) ℓ)

/-- The row block, the column block and the output block at a grid point. -/
theorem idx : ∀ t : Fin cfg0.N, win0_0.index t = ![t.val % 16, 0] ∧ win0_1.index t = ![0, t.val / 16] ∧ win0_2.index t = ![t.val % 16, t.val / 16] :=
  (by decide +kernel : ∀ t : Fin grid0.N, _)

set_option maxHeartbeats 1600000 in
/-- The packed weights at a row and a column. -/
theorem weights (c : Dev nD) (i : S2048x10240.Idx) : (V m c main_v10 : FVec Ideal S2048x10240 .bf16) i
    = (m ((c : Thread nD τ).loc main_arg1) : FVec Ideal S2048x13360 .f32) (ix2 (i 0)
        ⟨if (i 1 : ℕ) < 6144 then i 1 else 9264 + (i 1 - 6144), by have := (i 1).isLt; have : (i 1 : ℕ) < 10240 := this; split <;> omega⟩) := by
  unfold V
  after_reads_simp
  pointwise
  after_reads_simp
  pointwise
  split_ifs <;> blk_ext <;> (split <;> omega)

/-- One output block holds the product's entries. -/
theorem point (c : Dev nD) (t : Fin cfg0.N) (y) : k0_pay1 (F := Ideal) (iblk m c 0 t) (iblk m c 1 t) y
    = product (m ((c : Thread nD τ).loc main_arg0)) (m ((c : Thread nD τ).loc main_arg1)) (((cfg0.win 2).blk t).view.emb y) := by
  have hw : ∀ k, iblk m c 1 t (ix2 k (y 1)) = _ := fun k => weights m c (((cfg0.win 1).blk t).view.emb (ix2 k (y 1)))
  pointwise [k0_pay1, product]
  simp only [hw]
  split <;> rename_i h <;> blk_simp [idx t] at h <;> blk_simp [idx t]
  · simp only [h, if_true]
    blk_point [iblk, V, idx t]
  · simp only [h, if_false]
    blk_point [iblk, V, idx t]

/-- The result array is the product. -/
theorem final (c : Dev nD) : (dats m 0 c).arrAt 2 (cfgs 0).N
    = product (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.ProjA

end
-- ==== Proof.ProjB.lean ====
module

public import proofs.«01_k».proof.Proof.Gen.Kernel4Ideal.Value
public import proofs.«01_k».proof.Proof.Gen.Reference4Ideal.Run
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

/-! The key, value and branch-gate columns of the input projection are the matrix product. -/

namespace Cert.ProjB

section
open Cert.Reference4Ideal Cert.Reference4Ideal.Gen

/-- The key and value columns of the tokens times the input weights, then the branch gates, padded per head. -/
abbrev product (X : FVec Ideal S16384x2048 .bf16) (W : FVec Ideal S2048x13360 .f32) : FVec Ideal S16384x3584 .f32 :=
  concatenate S16384x3584 1 [⟨S16384x3072, (extractStridedSlice S16384x3072 ![0, 6144] (Host.dotGeneral dot_S16384x2048_S2048x13360_S16384x13360_1_0_0_1_n_n none (extf .f32 X bitsLt_bf16_f32) W) slices_S16384x13360_S16384x3072_0_6144)⟩, ⟨S16384x512, (shapeCast _ (pad S16384x4x128 ![0, 0, 0] ![0, 0, 116] ![0, 0, 0] (shapeCast _ (extractStridedSlice S16384x48 ![0, 9216] (Host.dotGeneral dot_S16384x2048_S2048x13360_S16384x13360_1_0_0_1_n_n none (extf .f32 X bitsLt_bf16_f32) W) slices_S16384x13360_S16384x48_0_9216) shapeCasts_S16384x48_S16384x4x12) (sitofp .f32 (constantI S_ 32 0#32)) pads_S16384x4x12_S16384x4x128_000_000_01160 h_S_) shapeCasts_S16384x4x128_S16384x512)⟩] concatenates_S16384x3072_S16384x512_S16384x3584_d1
end

open Cert.Kernel4Ideal Cert.Kernel4Ideal.Gen

variable (m : (ℓ : Loc nD τ sig) → Buf (Elt Ideal) ℓ)

/-- The row block, the column block and the output block at a grid point. -/
theorem idx : ∀ t : Fin cfg0.N, win0_0.index t = ![t.val % 16, 0] ∧ win0_1.index t = ![0, t.val / 16] ∧ win0_2.index t = ![t.val % 16, t.val / 16] :=
  (by decide +kernel : ∀ t : Fin grid0.N, _)

/-- The packed weights at a row and a column: a key or value column, a gate column of a head, or padding. -/
def packed (W : FVec Ideal S2048x13360 .f32) (i : S2048x3584.Idx) : EReal :=
  if h : (i 1 : ℕ) < 3072 then W (ix2 (i 0) ⟨6144 + i 1, by omega⟩)
  else if h' : (i 1 - 3072 : ℕ) / 128 < 4 ∧ (i 1 - 3072 : ℕ) % 128 < 12 then
    W (ix2 (i 0) ⟨9216 + ((i 1 - 3072) / 128 * 12 + (i 1 - 3072) % 128), by omega⟩)
  else 0

/-- An integer zero, converted, is zero. -/
theorem zero_conv : (FloatOps.sitofp .f32 0#32 : Ideal .f32) = (0 : EReal) := by
  show (((0#32 : BitVec 32).toInt : ℝ) : EReal) = 0
  simp

/-- The array the host prepares holds the packed weights. -/
theorem weights (c : Dev nD) (i : S2048x3584.Idx) : (V m c main_v12 : FVec Ideal S2048x3584 .bf16) i
    = packed (m ((c : Thread nD τ).loc main_arg1)) i := by
  unfold V packed
  after_reads_simp
  pointwise
  after_reads_simp
  simp only [StableHlo.TRef.toBuf, StableHlo.TRef.ofBuf, cast_eq]
  pointwise
  split_ifs <;> first | exact zero_conv | blk_ext

/-- The reference's entry is a row times a packed column. -/
theorem product_apply (X : FVec Ideal S16384x2048 .bf16) (W : FVec Ideal S2048x13360 .f32) (i : S16384x3584.Idx) :
    product X W i = ∑ k, X (ix2 (i 0) k) * packed W (ix2 k (i 1)) := by
  pointwise [product]
  by_cases h : (i 1 : ℕ) < 3072
  · have hp : ∀ k : Fin 2048, packed W (ix2 k (i 1)) = W (ix2 k ⟨6144 + i 1, by omega⟩) := fun k => dif_pos h
    simp only [hp]
    rw [dif_pos h]
  · by_cases h' : (i 1 - 3072 : ℕ) / 128 < 4 ∧ (i 1 - 3072 : ℕ) % 128 < 12
    · have hp : ∀ k : Fin 2048, packed W (ix2 k (i 1)) = W (ix2 k ⟨9216 + ((i 1 - 3072) / 128 * 12 + (i 1 - 3072) % 128), by omega⟩) :=
        fun k => (dif_neg h).trans (dif_pos h')
      simp only [hp]
      rw [dif_neg h, dif_pos h']
    · have hp : ∀ k : Fin 2048, packed W (ix2 k (i 1)) = 0 := fun k => (dif_neg h).trans (dif_neg h')
      simp only [hp, mul_zero, Finset.sum_const_zero]
      rw [dif_neg h, dif_neg h']
      exact zero_conv

/-- One output block holds the product's entries. -/
theorem point (c : Dev nD) (t : Fin cfg0.N) (y) : k0_pay1 (F := Ideal) (iblk m c 0 t) (iblk m c 1 t) y
    = product (m ((c : Thread nD τ).loc main_arg0)) (m ((c : Thread nD τ).loc main_arg1)) (((cfg0.win 2).blk t).view.emb y) := by
  have hw : ∀ k, iblk m c 1 t (ix2 k (y 1)) = _ := fun k => weights m c (((cfg0.win 1).blk t).view.emb (ix2 k (y 1)))
  have he : ∀ k : Fin 2048, ((cfg0.win 1).blk t).view.emb (ix2 k (y 1)) = ix2 k (((cfg0.win 2).blk t).view.emb y 1) :=
    fun k => by blk_ext [idx t]
  rw [product_apply]
  pointwise [k0_pay1]
  simp only [hw, he]
  generalize packed _ = P
  blk_point [iblk, V, idx t]

/-- The result array is the product. -/
theorem final (c : Dev nD) : (dats m 0 c).arrAt 2 (cfgs 0).N
    = product (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.ProjB

end
-- ==== Proof.Merge.lean ====
module

public import proofs.«01_k».proof.Proof.Gen.Kernel5Ideal.Value
public import proofs.«01_k».proof.Proof.Gen.Reference5Ideal.Run
public import proofs.«01_k».proof.Proof.Gen.Reference5Ideal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

/-! The end of the attention branch: the two branches weighted by their gates, projected and added to the
    stream, then normalised. -/

namespace Cert.Merge

open Cert.Kernel5Ideal Cert.Kernel5Ideal.Gen

/-- The row block of every window at a grid point. -/
theorem idx : ∀ t : Fin cfg0.N, win0_0.index t = ![t.val, 3] ∧ win0_1.index t = ![t.val, 4] ∧ win0_2.index t = ![t.val, 0]
    ∧ win0_3.index t = ![t.val, 0] ∧ win0_4.index t = ![t.val, 0] ∧ win0_5.index t = ![0, 0] ∧ win0_6.index t = ![0, 0]
    ∧ win0_7.index t = ![t.val, 0] ∧ win0_8.index t = ![t.val, 0] ∧ win0_9.index t = ![t.val, 0] :=
  (by decide +kernel : ∀ t : Fin grid0.N, _)

variable (P : FVec Ideal S16384x10240 .bf16) (A B : FVec Ideal S16384x2048 .bf16) (X : FVec Ideal S16384x2048 .f32)
  (W : FVec Ideal S2048x2048 .f32) (G : FVec Ideal S2048 .f32)

/-- The stream after the branch, at a row and a column. -/
def total (i : S16384x2048.Idx) : EReal := Cert.Reference5Ideal.Read.val_main_v22 (F := Ideal) P A B X W i

open Cert.Reference5Ideal.Read in
theorem total_apply (i) : total P A B X W i = X i + ∑ k : Fin 2048,
    (Ideal.div 1 (1 + Ideal.exp (-P (ix2 (i 0) ⟨6144 + k, by omega⟩))) * A (ix2 (i 0) k)
      + Ideal.div 1 (1 + Ideal.exp (-P (ix2 (i 0) ⟨8192 + k, by omega⟩))) * B (ix2 (i 0) k)) * W (ix2 k (i 1)) := by
  pointwise [total, val_main_v0, val_main_v1, val_main_v2, val_main_v3, val_main_v4, val_main_v5, val_main_cst, val_main_v6, val_main_v7, val_main_cst_0, val_main_v8, val_main_v9, val_main_v10, val_main_v11, val_main_v12, val_main_v13, val_main_cst_1, val_main_v14, val_main_v15, val_main_cst_2, val_main_v16, val_main_v17, val_main_v18, val_main_v19, val_main_v20, val_main_v21, val_main_v22]

/-- The normalised stream, at a row and a column. -/
def normed (i : S16384x2048.Idx) : EReal := Cert.Reference5Ideal.Read.val_main_v35 (F := Ideal) P A B X W G i

open Cert.Reference5Ideal.Read in
theorem normed_apply (i) : normed P A B X W G i = total P A B X W i
    * Ideal.rsqrt (Ideal.div (∑ k : Fin 2048, total P A B X W (ix2 (i 0) k) * total P A B X W (ix2 (i 0) k)) (Ideal.ofBits .f32 1157627904#32) + Ideal.ofBits .f32 897988541#32)
    * G (ix1 (i 1)) := by
  have ht : val_main_v22 (F := Ideal) P A B X W = total P A B X W := rfl
  unfold normed
  revert ht
  generalize total P A B X W = T
  intro ht
  pointwise [val_main_v23, val_main_cst_3, val_main_v24, val_main_v25, val_main_cst_4, val_main_v26, val_main_v27, val_main_cst_5, val_main_v28, val_main_v29, val_main_v30, val_main_v31, val_main_v32, val_main_v33, val_main_v34, val_main_v35]
  simp only [ht]

/-- The kernel's sum at a row and a column of its block. -/
theorem sum_point (v0 v9 v12 v21 v25 v27) (y : S256x2048.Idx) : k0_pay3 (F := Ideal) v0 v9 v12 v21 v25 v27 y = v25 y + ∑ k : Fin 2048,
    (Ideal.div 1 (1 + Ideal.exp (-v0 (ix2 (y 0) k))) * v9 (ix2 (y 0) k)
      + Ideal.div 1 (1 + Ideal.exp (-v12 (ix2 (y 0) k))) * v21 (ix2 (y 0) k)) * v27 (ix2 k (y 1)) := by
  pointwise [k0_pay3]
  simp only [zero_sub]

/-- The kernel's normalisation at a row and a column of its block. -/
theorem norm_point (v30 : FVec Ideal S256x2048 .f32) (v33) (y : S256x2048.Idx) : k0_pay1 (F := Ideal) v30 (k0_pay4 v33) (mulf v30 v30) y
    = v30 y * Ideal.rsqrt (Ideal.div (∑ k : Fin 2048, v30 (ix2 (y 0) k) * v30 (ix2 (y 0) k)) (Ideal.ofBits .f32 1157627904#32) + Ideal.ofBits .f32 897988541#32)
      * v33 (ix2 0 (y 1)) := by
  pointwise [k0_pay1, k0_pay4]

attribute [local irreducible] total normed

variable (m : (ℓ : Loc nD τ sig) → Buf (Elt Ideal) ℓ)

/-- The arguments at a device. -/
abbrev totalOf (c : Dev nD) : FVec Ideal S16384x2048 .f32 :=
  total (m ((c : Thread nD τ).loc main_arg0)) (m ((c : Thread nD τ).loc main_arg1)) (m ((c : Thread nD τ).loc main_arg2))
    (m ((c : Thread nD τ).loc main_arg3)) (m ((c : Thread nD τ).loc main_arg4))
/-- The normalised stream at a device. -/
abbrev normedOf (c : Dev nD) : FVec Ideal S16384x2048 .f32 :=
  normed (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- One block of the first result. -/
theorem point7 (c : Dev nD) (t : Fin cfg0.N) (y) :
    k0_pay3 (F := Ideal) (iblk m c 0 t) (iblk m c 2 t) (iblk m c 1 t) (iblk m c 3 t) (iblk m c 4 t) (iblk m c 5 t) y
      = totalOf m c (((cfg0.win 7).blk t).view.emb y) := by
  refine (sum_point _ _ _ _ _ _ y).trans ?_
  refine Eq.trans ?_ (total_apply _ _ _ _ _ _).symm
  blk_point [iblk, V, idx t]

/-- One block of the second result. -/
theorem point8 (c : Dev nD) (t : Fin cfg0.N) (y) :
    k0_pay1 (F := Ideal) (k0_pay3 (F := Ideal) (iblk m c 0 t) (iblk m c 2 t) (iblk m c 1 t) (iblk m c 3 t) (iblk m c 4 t) (iblk m c 5 t))
      (k0_pay4 (iblk m c 6 t)) (k0_pay5 (iblk m c 0 t) (iblk m c 2 t) (iblk m c 1 t) (iblk m c 3 t) (iblk m c 4 t) (iblk m c 5 t)) y
      = normedOf m c (((cfg0.win 8).blk t).view.emb y) := by
  have e0 : ((cfg0.win 7).blk t).view.emb y = ((cfg0.win 8).blk t).view.emb y := by blk_ext [idx t]
  have e1 : ∀ k : Fin 2048, ((cfg0.win 7).blk t).view.emb (ix2 (y 0) k) = ix2 (((cfg0.win 8).blk t).view.emb y 0) k :=
    fun k => by blk_ext [idx t]
  have eg : iblk m c 6 t (ix2 0 (y 1)) = (m ((c : Thread nD τ).loc main_arg5) : FVec Ideal S2048 .f32) (ix1 (((cfg0.win 8).blk t).view.emb y 1)) := by
    blk_point [iblk, V, idx t]
  refine (norm_point _ _ y).trans ?_
  refine Eq.trans ?_ (normed_apply _ _ _ _ _ _ _).symm
  simp only [point7, totalOf, e0, e1, eg]
  rfl

/-- The first result is the stream with the branch added. -/
theorem final7 (c : Dev nD) : (dats m 0 c).arrAt 7 (cfgs 0).N = totalOf m c := by
  refine (dats m 0 c).arrAt_eq_of_covers 7 _ (by decide +kernel) fun t _ y => ?_
  blk_simp
  rw [after0_7]; frame_out
  exact point7 m c t y

/-- The second result is that stream normalised. -/
theorem final8 (c : Dev nD) : (dats m 0 c).arrAt 8 (cfgs 0).N = normedOf m c := by
  refine (dats m 0 c).arrAt_eq_of_covers 8 _ (by decide +kernel) fun t _ y => ?_
  blk_simp
  rw [after0_8]; unfold_out out0_8; frame_out
  exact point8 m c t y

/-- The third result is the second in the narrower format. -/
theorem final9 (c : Dev nD) : (dats m 0 c).arrAt 9 (cfgs 0).N = normedOf m c := by
  refine (dats m 0 c).arrAt_eq_of_covers 9 _ (by decide +kernel) fun t _ y => ?_
  blk_simp
  rw [after0_9]; unfold_out out0_9; frame_out
  refine Eq.trans (point8 m c t y) (congrArg (normedOf m c) ?_)
  blk_ext [idx t]

end Cert.Merge

end
-- ==== Proof.MergeRun.lean ====
module

public import proofs.«01_k».proof.Proof.Gen.Kernel5Ideal.Frame
public import proofs.«01_k».proof.Proof.Gen.Reference5Ideal.Run
public import proofs.«01_k».proof.Proof.Gen.Reference5Ideal.Read
public import Idealize.ShloMosaic.Lib.Pipeline.ValueKit
public import Idealize.ShloMosaic.Lib.Pointwise
public import Idealize.ShloMosaic.Lib.Claim
public import proofs.«01_k».proof.Proof.Merge
public import proofs.«01_k».proof.Defs

@[expose] public section

set_option maxRecDepth 16384

noncomputable section

open Idealize.ShloMosaic Idealize.ShloMosaic.TcCoe Idealize.SL.Sem
open Idealize.ShloMosaic.Pipeline (Dat)

/-! The two runs of the end of the attention branch, their results named. -/

namespace Cert.Merge

open Cert.Kernel5Ideal Cert.Kernel5Ideal.Gen

/-- What the call leaves. -/
theorem kernel_run (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v2_0) = totalOf m c ∧ r.2.mem ((c.tc : Thread nD τ).loc main_v2_1) = normedOf m c
      ∧ r.2.mem ((c.tc : Thread nD τ).loc main_v2_2) = normedOf m c ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) := by
  run_from Cert.Kernel5Ideal.Gen.run_main m g
  · exact final7 m c
  · exact final8 m c
  · exact final9 m c

open Cert.Reference5Ideal.Read in
/-- What the reference leaves. -/
theorem reference_run (m' : (ℓ : Loc Cert.Reference5Ideal.nD Cert.Reference5Ideal.τ Cert.Reference5Ideal.sig) → Buf (Elt Ideal) ℓ) (g' : Dev Cert.Reference5Ideal.nD → PrngReg) :
    θ_run Cert.Reference5Ideal.defs (onTc (τ := Cert.Reference5Ideal.τ) (Cert.Reference5Ideal.main (F := Ideal))) ⟨m', fun _ => 0, g'⟩ fun r => ∀ c : Dev Cert.Reference5Ideal.nD,
      r.2.mem ((c.tc : Thread Cert.Reference5Ideal.nD Cert.Reference5Ideal.τ).loc Cert.Reference5Ideal.main_v22) = total (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4))
      ∧ r.2.mem ((c.tc : Thread Cert.Reference5Ideal.nD Cert.Reference5Ideal.τ).loc Cert.Reference5Ideal.main_v35) = normed (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg5))
      ∧ r.2.mem ((c.tc : Thread Cert.Reference5Ideal.nD Cert.Reference5Ideal.τ).loc Cert.Reference5Ideal.main_v36) = normed (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg5)) ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0) ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1) ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2) ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3) ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4) ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5) :=
  (θ_run _ _ _).mono (fun r h c => ⟨(h c).1.trans (val_main_v22_eq _ _ _ _ _), (h c).2.1.trans (val_main_v35_eq _ _ _ _ _ _),
    (h c).2.2.1.trans (val_main_v36_eq _ _ _ _ _ _), (h c).2.2.2⟩) (Cert.Reference5Ideal.Value.run m' g')

/-- The call computes its reference. -/
theorem algebraic : Cert.algebraic_Kernel5Ideal_Reference5Ideal := by
  intro m g m' g' _ hagree
  refine ⟨fun c => totalOf m c, fun c => normedOf m c, fun c => normedOf m c, kernel_run m g, ?_⟩
  refine (θ_run _ _ _).mono (fun r h c => ?_) (reference_run m' g')
  obtain ⟨h0, h1, h2, h3, h4, h5⟩ := hagree c
  obtain ⟨e0, e1, e2, e3⟩ := h c
  rw [h0, h1, h2, h3, h4] at e0
  rw [h0, h1, h2, h3, h4, h5] at e1 e2
  exact ⟨e0, e1, e2, e3⟩

end Cert.Merge

end
-- ==== Proof.Query.lean ====
module

public import proofs.«01_k».proof.Proof.Gen.Kernel6Ideal.Value
public import proofs.«01_k».proof.Proof.Gen.Reference6Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

/-! The query projection of the expert retrieval, tiled over rows and columns, is the matrix product. -/

namespace Cert.Query

open Cert.Kernel6Ideal Cert.Kernel6Ideal.Gen

variable (m : (ℓ : Loc nD τ sig) → Buf (Elt Ideal) ℓ)

/-- The reference's product of the tokens and the query weights. -/
abbrev product (X : FVec Ideal S16384x2048 .bf16) (W : FVec Ideal S2048x2048 .f32) : FVec Ideal S16384x2048 .f32 :=
  Host.dotGeneral Cert.Reference6Ideal.dot_S16384x2048_S2048x2048_S16384x2048_1_0_0_1_n_n none (extf .f32 X Cert.Reference6Ideal.Gen.bitsLt_bf16_f32) W

/-- The row block, the column block and the output block at a grid point. -/
theorem idx : ∀ t : Fin cfg0.N, win0_0.index t = ![t.val % 16, 0] ∧ win0_1.index t = ![0, t.val / 16] ∧ win0_2.index t = ![t.val % 16, t.val / 16] :=
  (by decide +kernel : ∀ t : Fin grid0.N, _)

/-- One output block holds the product's entries. -/
theorem point (c : Dev nD) (t : Fin cfg0.N) (y) : k0_pay1 (F := Ideal) (iblk m c 0 t) (iblk m c 1 t) y
    = product (m ((c : Thread nD τ).loc main_arg0)) (m ((c : Thread nD τ).loc main_arg1)) (((cfg0.win 2).blk t).view.emb y) := by
  pointwise [k0_pay1, product]
  blk_point [iblk, V, idx t]

/-- The result array is the product. -/
theorem final (c : Dev nD) : (dats m 0 c).arrAt 2 (cfgs 0).N
    = product (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Query

end
-- ==== Proof.lean ====
/- The attention call runs and is its own idealization; the gating unit, the two input projections, the end of
   the attention branch and the query projection of the expert retrieval run and compute their references. -/
module

public import proofs.«01_k».proof.Proof.Gen.Kernel.Frame
public import proofs.«01_k».proof.Proof.Gen.KernelIdeal.Frame
public import proofs.«01_k».proof.Proof.Gen.Kernel2.Frame
public import proofs.«01_k».proof.Proof.Gen.Kernel2Ideal.Frame
public import proofs.«01_k».proof.Proof.Gen.Kernel3.Frame
public import proofs.«01_k».proof.Proof.Gen.Kernel3Ideal.Frame
public import proofs.«01_k».proof.Proof.Gen.Kernel4.Frame
public import proofs.«01_k».proof.Proof.Gen.Kernel4Ideal.Frame
public import proofs.«01_k».proof.Proof.Gen.Kernel5.Frame
public import proofs.«01_k».proof.Proof.Gen.Kernel5Ideal.Frame
public import proofs.«01_k».proof.Proof.Gen.Kernel6.Frame
public import proofs.«01_k».proof.Proof.Gen.Kernel6Ideal.Frame
public import proofs.«01_k».proof.Proof.Gmlp
public import proofs.«01_k».proof.Proof.ProjA
public import proofs.«01_k».proof.Proof.ProjB
public import proofs.«01_k».proof.Proof.MergeRun
public import proofs.«01_k».proof.Proof.Query
public import proofs.«01_k».proof.Defs
public import Idealize.ShloMosaic.Adequacy
public import Idealize.ShloMosaic.Init
public import Idealize.ShloMosaic.Lib.Claim
public import Idealize.ShloMosaic.Lib.StableHlo.RunRead

@[expose] public section

noncomputable section

namespace Cert.Proof

open Idealize.ShloMosaic Idealize.ShloMosaic.TcCoe Idealize.SL.Sem

/-- The second reference runs and leaves its arguments. -/
theorem frame2 : Cert.quiescent_Reference2Ideal := by
  intro m g _
  exact (θ_run Cert.Reference2Ideal.defs _ _).mono (fun r h => ⟨fun c => (h c).2,
    sem_eq_zero_of_no_sems (by decide) r.2⟩) (Cert.Reference2Ideal.Value.run m g)

/-- The third reference runs and leaves its arguments. -/
theorem frame3 : Cert.quiescent_Reference3Ideal := by
  intro m g _
  exact (θ_run Cert.Reference3Ideal.defs _ _).mono (fun r h => ⟨fun c => (h c).2,
    sem_eq_zero_of_no_sems (by decide) r.2⟩) (Cert.Reference3Ideal.Value.run m g)

/-- The fourth reference runs and leaves its arguments. -/
theorem frame4 : Cert.quiescent_Reference4Ideal := by
  intro m g _
  exact (θ_run Cert.Reference4Ideal.defs _ _).mono (fun r h => ⟨fun c => (h c).2,
    sem_eq_zero_of_no_sems (by decide) r.2⟩) (Cert.Reference4Ideal.Value.run m g)

/-- The fifth reference runs and leaves its arguments. -/
theorem frame5 : Cert.quiescent_Reference5Ideal := by
  intro m g _
  exact (θ_run Cert.Reference5Ideal.defs _ _).mono (fun r h => ⟨fun c => (h c).2.2.2,
    sem_eq_zero_of_no_sems (by decide) r.2⟩) (Cert.Reference5Ideal.Value.run m g)

/-- The sixth reference runs and leaves its arguments. -/
theorem frame6 : Cert.quiescent_Reference6Ideal := by
  intro m g _
  exact (θ_run Cert.Reference6Ideal.defs _ _).mono (fun r h => ⟨fun c => (h c).2,
    sem_eq_zero_of_no_sems (by decide) r.2⟩) (Cert.Reference6Ideal.Value.run m g)

/-- The gating unit computes its reference. -/
theorem algebraic2 : Cert.algebraic_Kernel2Ideal_Reference2Ideal := by
  pair_intro
  · run_from Cert.Kernel2Ideal.Gen.run_main m g
  run_from Cert.Reference2Ideal.Value.run m' g'
  refine (Cert.Reference2Ideal.Read.val_main_v65_eq m' c).trans ?_
  obtain ⟨h0, h1, h2, h3, h4⟩ := hagree c
  rw [h0, h1, h2, h3, h4]
  exact (Cert.Gmlp.final m c).symm

/-- The first projection computes its reference. -/
theorem algebraic3 : Cert.algebraic_Kernel3Ideal_Reference3Ideal := by
  pair_intro
  · run_from Cert.Kernel3Ideal.Gen.run_main m g; after_reads_simp
  run_from Cert.Reference3Ideal.Value.run m' g'
  exact (Cert.ProjA.final m c).symm

/-- The second projection computes its reference. -/
theorem algebraic4 : Cert.algebraic_Kernel4Ideal_Reference4Ideal := by
  pair_intro
  · run_from Cert.Kernel4Ideal.Gen.run_main m g; after_reads_simp
  run_from Cert.Reference4Ideal.Value.run m' g'
  exact (Cert.ProjB.final m c).symm

/-- The query projection computes its reference. -/
theorem algebraic6 : Cert.algebraic_Kernel6Ideal_Reference6Ideal := by
  pair_intro
  · run_from Cert.Kernel6Ideal.Gen.run_main m g
  run_from Cert.Reference6Ideal.Value.run m' g'
  exact (Cert.Query.final m c).symm

/-- Everything claimed. -/
theorem claim : Cert.Claim := ⟨Cert.Kernel.Gen.facts, Cert.KernelIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts,
  fun m ρ _ => Cert.Kernel.Gen.frame m ρ,
  fun m ρ _ => Cert.KernelIdeal.Gen.frame m ρ,
  fun m ρ _ => Cert.Kernel2.Gen.frame m ρ,
  fun m ρ _ => Cert.Kernel2Ideal.Gen.frame m ρ,
  frame2,
  fun m ρ _ => Cert.Kernel3.Gen.frame m ρ,
  fun m ρ _ => Cert.Kernel3Ideal.Gen.frame m ρ,
  frame3,
  fun m ρ _ => Cert.Kernel4.Gen.frame m ρ,
  fun m ρ _ => Cert.Kernel4Ideal.Gen.frame m ρ,
  frame4,
  fun m ρ _ => Cert.Kernel5.Gen.frame m ρ,
  fun m ρ _ => Cert.Kernel5Ideal.Gen.frame m ρ,
  frame5,
  fun m ρ _ => Cert.Kernel6.Gen.frame m ρ,
  fun m ρ _ => Cert.Kernel6Ideal.Gen.frame m ρ,
  frame6,
  IdealRules.named_const.statement Cert.KernelIdeal.κ "mask" .f32 0xF149F2CA#32 ⊥ rfl,
  trivial,
  algebraic2,
  trivial,
  algebraic3,
  trivial,
  algebraic4,
  trivial,
  Cert.Merge.algebraic,
  trivial,
  algebraic6⟩

end Cert.Proof

end
